-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x896x16x48 : Shape := ⟨4, ![12, 896, 16, 48]⟩
abbrev S12x896 : Shape := ⟨2, ![12, 896]⟩
abbrev S12x896x768 : Shape := ⟨3, ![12, 896, 768]⟩
abbrev S12x896x384 : Shape := ⟨3, ![12, 896, 384]⟩
abbrev S16x48x768 : Shape := ⟨3, ![16, 48, 768]⟩
abbrev S768 : Shape := ⟨1, ![768]⟩
abbrev S384x2x768 : Shape := ⟨3, ![384, 2, 768]⟩
abbrev S2x768 : Shape := ⟨2, ![2, 768]⟩
abbrev S384 : Shape := ⟨1, ![384]⟩
abbrev S768x2x1536 : Shape := ⟨3, ![768, 2, 1536]⟩
abbrev S2x1536 : Shape := ⟨2, ![2, 1536]⟩
abbrev S1536x768 : Shape := ⟨2, ![1536, 768]⟩
abbrev S12x1x896 : Shape := ⟨3, ![12, 1, 896]⟩
abbrev S768x768 : Shape := ⟨2, ![768, 768]⟩
abbrev S1x768 : Shape := ⟨2, ![1, 768]⟩
abbrev S2x384x768 : Shape := ⟨3, ![2, 384, 768]⟩
abbrev S1x384 : Shape := ⟨2, ![1, 384]⟩
abbrev S2x768x1536 : Shape := ⟨3, ![2, 768, 1536]⟩
abbrev S12x896x1536 : Shape := ⟨3, ![12, 896, 1536]⟩
abbrev S1x896x768 : Shape := ⟨3, ![1, 896, 768]⟩
abbrev S1x1x896 : Shape := ⟨3, ![1, 1, 896]⟩
abbrev S1x896x384 : Shape := ⟨3, ![1, 896, 384]⟩
abbrev S1x896x1536 : Shape := ⟨3, ![1, 896, 1536]⟩
abbrev S1x256x384 : Shape := ⟨3, ![1, 256, 384]⟩
abbrev S256x384 : Shape := ⟨2, ![256, 384]⟩
abbrev S256 : Shape := ⟨1, ![256]⟩
abbrev S256x1 : Shape := ⟨2, ![256, 1]⟩
abbrev S1x384x768 : Shape := ⟨3, ![1, 384, 768]⟩
abbrev S384x768 : Shape := ⟨2, ![384, 768]⟩
abbrev S256x768 : Shape := ⟨2, ![256, 768]⟩
abbrev S1x1x256 : Shape := ⟨3, ![1, 1, 256]⟩
abbrev S1x256 : Shape := ⟨2, ![1, 256]⟩
abbrev S1x128 : Shape := ⟨2, ![1, 128]⟩
abbrev S128x128 : Shape := ⟨2, ![128, 128]⟩
abbrev S256x128 : Shape := ⟨2, ![256, 128]⟩
abbrev S1x256x768 : Shape := ⟨3, ![1, 256, 768]⟩
abbrev S128x1 : Shape := ⟨2, ![128, 1]⟩
abbrev S1x768x1536 : Shape := ⟨3, ![1, 768, 1536]⟩
abbrev S768x1536 : Shape := ⟨2, ![768, 1536]⟩
abbrev S256x1536 : Shape := ⟨2, ![256, 1536]⟩
abbrev S1x1536 : Shape := ⟨2, ![1, 1536]⟩
abbrev S1x256x1536 : Shape := ⟨3, ![1, 256, 1536]⟩
abbrev S1x128x384 : Shape := ⟨3, ![1, 128, 384]⟩
abbrev S128x384 : Shape := ⟨2, ![128, 384]⟩
abbrev S128 : Shape := ⟨1, ![128]⟩
abbrev S128x768 : Shape := ⟨2, ![128, 768]⟩
abbrev S1x1x128 : Shape := ⟨3, ![1, 1, 128]⟩
abbrev S1x128x768 : Shape := ⟨3, ![1, 128, 768]⟩
abbrev S128x1536 : Shape := ⟨2, ![128, 1536]⟩
abbrev S1x128x1536 : Shape := ⟨3, ![1, 128, 1536]⟩

abbrev nBuf : Space → Nat
  | .hbm => 31
  | .vmem => 31
  | .smem => 0
  | _ => 0

abbrev bufTy : (tb : Table) → Fin (tcTables nBuf tb) → BufTy
  | .hbm, ⟨0, _⟩ => ⟨S12x896x16x48, .fp8e4m3⟩
  | .hbm, ⟨1, _⟩ => ⟨S12x896, .f32⟩
  | .hbm, ⟨2, _⟩ => ⟨S12x896x768, .bf16⟩
  | .hbm, ⟨3, _⟩ => ⟨S12x896x384, .bf16⟩
  | .hbm, ⟨4, _⟩ => ⟨S16x48x768, .fp8e4m3⟩
  | .hbm, ⟨5, _⟩ => ⟨S768, .f32⟩
  | .hbm, ⟨6, _⟩ => ⟨S384x2x768, .bf16⟩
  | .hbm, ⟨7, _⟩ => ⟨S2x768, .f32⟩
  | .hbm, ⟨8, _⟩ => ⟨S384, .f32⟩
  | .hbm, ⟨9, _⟩ => ⟨S384x2x768, .bf16⟩
  | .hbm, ⟨10, _⟩ => ⟨S768, .f32⟩
  | .hbm, ⟨11, _⟩ => ⟨S768x2x1536, .fp8e4m3⟩
  | .hbm, ⟨12, _⟩ => ⟨S2x1536, .f32⟩
  | .hbm, ⟨13, _⟩ => ⟨S1536x768, .fp8e4m3⟩
  | .hbm, ⟨14, _⟩ => ⟨S768, .f32⟩
  | .hbm, ⟨15, _⟩ => ⟨S12x896x768, .fp8e4m3⟩
  | .hbm, ⟨16, _⟩ => ⟨S12x1x896, .f32⟩
  | .hbm, ⟨17, _⟩ => ⟨S768x768, .fp8e4m3⟩
  | .hbm, ⟨18, _⟩ => ⟨S1x768, .f32⟩
  | .hbm, ⟨19, _⟩ => ⟨S2x384x768, .bf16⟩
  | .hbm, ⟨20, _⟩ => ⟨S1x384, .f32⟩
  | .hbm, ⟨21, _⟩ => ⟨S2x384x768, .bf16⟩
  | .hbm, ⟨22, _⟩ => ⟨S1x768, .f32⟩
  | .hbm, ⟨23, _⟩ => ⟨S2x768x1536, .fp8e4m3⟩
  | .hbm, ⟨24, _⟩ => ⟨S1x768, .f32⟩
  | .hbm, ⟨25, _⟩ => ⟨S12x896x768, .bf16⟩
  | .hbm, ⟨26, _⟩ => ⟨S12x896x768, .f32⟩
  | .hbm, ⟨27, _⟩ => ⟨S12x896x768, .fp8e4m3⟩
  | .hbm, ⟨28, _⟩ => ⟨S12x1x896, .f32⟩
  | .hbm, ⟨29, _⟩ => ⟨S12x896x1536, .fp8e4m3⟩
  | .hbm, ⟨30, _⟩ => ⟨S12x1x896, .f32⟩
  | .local _ .vmem, ⟨0, _⟩ => ⟨S1x896x768, .fp8e4m3⟩
  | .local _ .vmem, ⟨1, _⟩ => ⟨S1x896x768, .fp8e4m3⟩
  | .local _ .vmem, ⟨2, _⟩ => ⟨S1x1x896, .f32⟩
  | .local _ .vmem, ⟨3, _⟩ => ⟨S1x1x896, .f32⟩
  | .local _ .vmem, ⟨4, _⟩ => ⟨S1x896x768, .bf16⟩
  | .local _ .vmem, ⟨5, _⟩ => ⟨S1x896x768, .bf16⟩
  | .local _ .vmem, ⟨6, _⟩ => ⟨S1x896x384, .bf16⟩
  | .local _ .vmem, ⟨7, _⟩ => ⟨S1x896x384, .bf16⟩
  | .local _ .vmem, ⟨8, _⟩ => ⟨S768x768, .fp8e4m3⟩
  | .local _ .vmem, ⟨9, _⟩ => ⟨S1x768, .f32⟩
  | .local _ .vmem, ⟨10, _⟩ => ⟨S2x384x768, .bf16⟩
  | .local _ .vmem, ⟨11, _⟩ => ⟨S2x768, .f32⟩
  | .local _ .vmem, ⟨12, _⟩ => ⟨S1x384, .f32⟩
  | .local _ .vmem, ⟨13, _⟩ => ⟨S2x384x768, .bf16⟩
  | .local _ .vmem, ⟨14, _⟩ => ⟨S1x768, .f32⟩
  | .local _ .vmem, ⟨15, _⟩ => ⟨S2x768x1536, .fp8e4m3⟩
  | .local _ .vmem, ⟨16, _⟩ => ⟨S2x1536, .f32⟩
  | .local _ .vmem, ⟨17, _⟩ => ⟨S1536x768, .fp8e4m3⟩
  | .local _ .vmem, ⟨18, _⟩ => ⟨S1x768, .f32⟩
  | .local _ .vmem, ⟨19, _⟩ => ⟨S1x896x768, .bf16⟩
  | .local _ .vmem, ⟨20, _⟩ => ⟨S1x896x768, .bf16⟩
  | .local _ .vmem, ⟨21, _⟩ => ⟨S1x896x768, .f32⟩
  | .local _ .vmem, ⟨22, _⟩ => ⟨S1x896x768, .f32⟩
  | .local _ .vmem, ⟨23, _⟩ => ⟨S1x896x768, .fp8e4m3⟩
  | .local _ .vmem, ⟨24, _⟩ => ⟨S1x896x768, .fp8e4m3⟩
  | .local _ .vmem, ⟨25, _⟩ => ⟨S1x1x896, .f32⟩
  | .local _ .vmem, ⟨26, _⟩ => ⟨S1x1x896, .f32⟩
  | .local _ .vmem, ⟨27, _⟩ => ⟨S1x896x1536, .fp8e4m3⟩
  | .local _ .vmem, ⟨28, _⟩ => ⟨S1x896x1536, .fp8e4m3⟩
  | .local _ .vmem, ⟨29, _⟩ => ⟨S1x1x896, .f32⟩
  | .local _ .vmem, ⟨30, _⟩ => ⟨S1x1x896, .f32⟩
  | _, _ => ⟨S12x896x16x48, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x896x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x896x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x896x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x384x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x384x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x768x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x768 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x896x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x896x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x896x768 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x896 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x896x1536 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x896 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S12x896x16x48 : Shape := ⟨4, ![12, 896, 16, 48]⟩
abbrev S12x896 : Shape := ⟨2, ![12, 896]⟩
abbrev S12x896x768 : Shape := ⟨3, ![12, 896, 768]⟩
abbrev S12x896x384 : Shape := ⟨3, ![12, 896, 384]⟩
abbrev S16x48x768 : Shape := ⟨3, ![16, 48, 768]⟩
abbrev S768 : Shape := ⟨1, ![768]⟩
abbrev S384x2x768 : Shape := ⟨3, ![384, 2, 768]⟩
abbrev S2x768 : Shape := ⟨2, ![2, 768]⟩
abbrev S384 : Shape := ⟨1, ![384]⟩
abbrev S768x2x1536 : Shape := ⟨3, ![768, 2, 1536]⟩
abbrev S2x1536 : Shape := ⟨2, ![2, 1536]⟩
abbrev S1536x768 : Shape := ⟨2, ![1536, 768]⟩
abbrev S12x1x896 : Shape := ⟨3, ![12, 1, 896]⟩
abbrev S12x896x1536 : Shape := ⟨3, ![12, 896, 1536]⟩
abbrev S12x896x1 : Shape := ⟨3, ![12, 896, 1]⟩
abbrev S12x896x2x768 : Shape := ⟨4, ![12, 896, 2, 768]⟩
abbrev S1x1x2x768 : Shape := ⟨4, ![1, 1, 2, 768]⟩
abbrev S1x1x768 : Shape := ⟨3, ![1, 1, 768]⟩
abbrev S12x896x1x768 : Shape := ⟨4, ![12, 896, 1, 768]⟩
abbrev S1x1x384 : Shape := ⟨3, ![1, 1, 384]⟩
abbrev S12x896x2x1536 : Shape := ⟨4, ![12, 896, 2, 1536]⟩
abbrev S12x896x1x1 : Shape := ⟨4, ![12, 896, 1, 1]⟩
abbrev S1x1x2x1536 : Shape := ⟨4, ![1, 1, 2, 1536]⟩
abbrev S12x896x1x1536 : Shape := ⟨4, ![12, 896, 1, 1536]⟩

abbrev nBuf : Space → Nat
  | .hbm => 21
  | .vmem => 21
  | .smem => 0
  | _ => 0

abbrev bufTy : (tb : Table) → Fin (tcTables nBuf tb) → BufTy
  | .hbm, ⟨0, _⟩ => ⟨S12x896x16x48, .fp8e4m3⟩
  | .hbm, ⟨1, _⟩ => ⟨S12x896, .f32⟩
  | .hbm, ⟨2, _⟩ => ⟨S12x896x768, .bf16⟩
  | .hbm, ⟨3, _⟩ => ⟨S12x896x384, .bf16⟩
  | .hbm, ⟨4, _⟩ => ⟨S16x48x768, .fp8e4m3⟩
  | .hbm, ⟨5, _⟩ => ⟨S768, .f32⟩
  | .hbm, ⟨6, _⟩ => ⟨S384x2x768, .bf16⟩
  | .hbm, ⟨7, _⟩ => ⟨S2x768, .f32⟩
  | .hbm, ⟨8, _⟩ => ⟨S384, .f32⟩
  | .hbm, ⟨9, _⟩ => ⟨S384x2x768, .bf16⟩
  | .hbm, ⟨10, _⟩ => ⟨S768, .f32⟩
  | .hbm, ⟨11, _⟩ => ⟨S768x2x1536, .fp8e4m3⟩
  | .hbm, ⟨12, _⟩ => ⟨S2x1536, .f32⟩
  | .hbm, ⟨13, _⟩ => ⟨S1536x768, .fp8e4m3⟩
  | .hbm, ⟨14, _⟩ => ⟨S768, .f32⟩
  | .hbm, ⟨15, _⟩ => ⟨S12x896x768, .bf16⟩
  | .hbm, ⟨16, _⟩ => ⟨S12x896x768, .f32⟩
  | .hbm, ⟨17, _⟩ => ⟨S12x896x768, .fp8e4m3⟩
  | .hbm, ⟨18, _⟩ => ⟨S12x1x896, .f32⟩
  | .hbm, ⟨19, _⟩ => ⟨S12x896x1536, .fp8e4m3⟩
  | .hbm, ⟨20, _⟩ => ⟨S12x1x896, .f32⟩
  | .local _ .vmem, ⟨0, _⟩ => ⟨S12x896x16x48, .fp8e4m3⟩
  | .local _ .vmem, ⟨1, _⟩ => ⟨S12x896, .f32⟩
  | .local _ .vmem, ⟨2, _⟩ => ⟨S12x896x768, .bf16⟩
  | .local _ .vmem, ⟨3, _⟩ => ⟨S12x896x384, .bf16⟩
  | .local _ .vmem, ⟨4, _⟩ => ⟨S16x48x768, .fp8e4m3⟩
  | .local _ .vmem, ⟨5, _⟩ => ⟨S768, .f32⟩
  | .local _ .vmem, ⟨6, _⟩ => ⟨S384x2x768, .bf16⟩
  | .local _ .vmem, ⟨7, _⟩ => ⟨S2x768, .f32⟩
  | .local _ .vmem, ⟨8, _⟩ => ⟨S384, .f32⟩
  | .local _ .vmem, ⟨9, _⟩ => ⟨S384x2x768, .bf16⟩
  | .local _ .vmem, ⟨10, _⟩ => ⟨S768, .f32⟩
  | .local _ .vmem, ⟨11, _⟩ => ⟨S768x2x1536, .fp8e4m3⟩
  | .local _ .vmem, ⟨12, _⟩ => ⟨S2x1536, .f32⟩
  | .local _ .vmem, ⟨13, _⟩ => ⟨S1536x768, .fp8e4m3⟩
  | .local _ .vmem, ⟨14, _⟩ => ⟨S768, .f32⟩
  | .local _ .vmem, ⟨15, _⟩ => ⟨S12x896x768, .bf16⟩
  | .local _ .vmem, ⟨16, _⟩ => ⟨S12x896x768, .f32⟩
  | .local _ .vmem, ⟨17, _⟩ => ⟨S12x896x768, .fp8e4m3⟩
  | .local _ .vmem, ⟨18, _⟩ => ⟨S12x1x896, .f32⟩
  | .local _ .vmem, ⟨19, _⟩ => ⟨S12x896x1536, .fp8e4m3⟩
  | .local _ .vmem, ⟨20, _⟩ => ⟨S12x1x896, .f32⟩
  | _, _ => ⟨S12x896x16x48, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S12x896x16x48 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x896x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x896x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x48x768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x2x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S384x2x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x2x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x768 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x896x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12x896x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12x896x768 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S12x1x896 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S12x896x1536 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S12x1x896 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.Spec.lean ====
module

public import Idealize.ShloMosaic.Lib.Pointwise

/-! The mathematics of the tail of the layer, one token at a time, over the extended reals. Both programs are
compared with these functions: a token's row of values goes in, a row (or a scale) comes out. -/

@[expose] public section

noncomputable section

namespace Cert.Tail

open Idealize.ShloMosaic Idealize.ShloMosaic.TcCoe Idealize.SL.Sem

/-- Layer norm of a row `v`: centred by its mean and divided by the root of its variance plus `1e-5`. `z` is the
    row's length as a number. -/
def lnorm {n : ℕ} (z : EReal) (v : Fin n → EReal) (d : Fin n) : EReal :=
  Ideal.div (v d - Ideal.div (∑ x, v x) z)
    (Ideal.sqrt (Ideal.div (∑ x, (v x - Ideal.div (∑ x, v x) z) * (v x - Ideal.div (∑ x, v x) z)) z
      + Ideal.ofBits FTy.f32 925353388#32))

/-- The largest absolute value of a row. -/
def amax {n : ℕ} (v : Fin n → EReal) : EReal :=
  Finset.fold max (Ideal.ofBits FTy.f32 4286578688#32) (fun x => FloatOps.absf (F := Ideal) (φ := FTy.f32) (v x)) Finset.univ

/-- The quantiser's scale for a largest absolute value: that value over 448, and 1 for a row of zeros. -/
def scaleOf (z : EReal) : EReal := if z = 0 then 1 else Ideal.div z (Ideal.ofBits FTy.f32 1138753536#32)

/-- The quantiser's scale of a row. -/
def qscale {n : ℕ} (v : Fin n → EReal) : EReal := scaleOf (amax v)

/-- Clipping to ±448. -/
def clip (z : EReal) : EReal := min (Ideal.ofBits FTy.f32 1138753536#32) (max (Ideal.ofBits FTy.f32 3286237184#32) z)

/-- The quantiser's code: the value over the row's scale, clipped to ±448. -/
def qcode {n : ℕ} (v : Fin n → EReal) (d : Fin n) : EReal := clip (Ideal.div (v d) (qscale v))

/-- The clipping as both programs print it, at an index of any shape. -/
theorem clip_at {s : Shape} (z : FVec Ideal s .f32) (i : s.Idx) :
    minimumf (broadcast s (Scalar.ofBits (F := Ideal) .f32 0x43E00000#32))
      (maximumf (broadcast s (Scalar.ofBits (F := Ideal) .f32 0xC3E00000#32)) z) i = clip (z i) := by
  pointwise []
  simp only [clip]

/-- … and followed by the cast to the codes' type. -/
theorem clip_cast_at {s : Shape} (z : FVec Ideal s .f32) (i : s.Idx) (h) :
    truncf .fp8e4m3 (minimumf (broadcast s (Scalar.ofBits (F := Ideal) .f32 0x43E00000#32))
      (maximumf (broadcast s (Scalar.ofBits (F := Ideal) .f32 0xC3E00000#32)) z)) h i = clip (z i) := by
  pointwise []
  simp only [clip]

/-- The scale as both programs print it, at an index of any shape. -/
theorem scaleOf_at {s : Shape} (z : FVec Ideal s .f32) (i : s.Idx) :
    select (cmpf .oeq z (broadcast s (Scalar.ofBits (F := Ideal) .f32 0x00000000#32)))
      (broadcast s (Scalar.ofBits (F := Ideal) .f32 0x3F800000#32))
      (divf z (broadcast s (Scalar.ofBits (F := Ideal) .f32 0x43E00000#32))) i = scaleOf (z i) := by
  pointwise []
  simp only [scaleOf]

/-- A scaled product of codes: the row `x` times the matrix `w`, times the row's scale, times the column's scale. -/
def proj {n k : ℕ} (x : Fin n → EReal) (w : Fin n → Fin k → EReal) (sc : EReal) (ws : Fin k → EReal) (d : Fin k) : EReal :=
  (∑ c, x c * w c d) * sc * ws d

/-- The weights of the tail, as functions of their indices. -/
structure Wts where
  wo : Fin 768 → Fin 768 → EReal
  wos : Fin 768 → EReal
  wg : Fin 2 → Fin 384 → Fin 768 → EReal
  bg : Fin 2 → Fin 768 → EReal
  gain : Fin 384 → EReal
  wa : Fin 2 → Fin 384 → Fin 768 → EReal
  ba : Fin 768 → EReal
  wi : Fin 2 → Fin 768 → Fin 1536 → EReal
  wis : Fin 2 → Fin 1536 → EReal
  wu : Fin 1536 → Fin 768 → EReal
  wus : Fin 768 → EReal

/-- One token: its attention codes (all heads side by side), their scale, its activation and conditioning rows. -/
structure Row where
  og : Fin 768 → EReal
  ogs : EReal
  a : Fin 768 → EReal
  s : Fin 384 → EReal

namespace Wts

variable (W : Wts) (x : Row)

/-- The conditioning row, normalised and multiplied by its gain. -/
def sn (c : Fin 384) : EReal := lnorm (Ideal.ofBits FTy.f32 1136656384#32) x.s c * W.gain c

/-- The sigmoid gates computed from the conditioning row (`0` for the attention branch, `1` for the feed-forward). -/
def gate (j : Fin 2) (d : Fin 768) : EReal := Ideal.logistic ((∑ c, x.s c * W.wg j c d) + W.bg j d)

/-- The activation after the gated attention branch. -/
def amid (d : Fin 768) : EReal := x.a d + W.gate x 0 d * proj x.og W.wo x.ogs W.wos d

/-- The second adaptive norm of the activation. -/
def x2 (d : Fin 768) : EReal :=
  lnorm (Ideal.ofBits FTy.f32 1145044992#32) (W.amid x) d * Ideal.logistic ((∑ c, W.sn x c * W.wa 0 c d) + W.ba d)
    + ∑ c, W.sn x c * W.wa 1 c d

/-- The scale of the adaptive norm's row. -/
def x2s : EReal := qscale (W.x2 x)

/-- The codes of the adaptive norm's row. -/
def x2c (d : Fin 768) : EReal := qcode (W.x2 x) d

/-- The two halves of the feed-forward's first product (`0` gate, `1` up). -/
def gu (j : Fin 2) (f : Fin 1536) : EReal := proj (W.x2c x) (W.wi j) (W.x2s x) (W.wis j) f

/-- The hidden row. -/
def hid (f : Fin 1536) : EReal := W.gu x 0 f * Ideal.logistic (W.gu x 0 f) * W.gu x 1 f

/-- The scale of the hidden row. -/
def hs : EReal := qscale (W.hid x)

/-- The codes of the hidden row. -/
def hc (f : Fin 1536) : EReal := qcode (W.hid x) f

/-- The layer's result. -/
def y (d : Fin 768) : EReal := W.amid x d + W.gate x 1 d * proj (W.hc x) W.wu (W.hs x) W.wus d

end Wts

end Cert.Tail
-- ==== Proof.Args.lean ====
module

public import proofs.«01_k».proof.Proof.Spec
public import proofs.«01_k».proof.Proof.Gen.KernelIdeal.Points

/-! The weights and the tokens named by the arguments of the two programs. -/

@[expose] public section

noncomputable section

namespace Cert.Tail

open Idealize.ShloMosaic Idealize.ShloMosaic.TcCoe Idealize.SL.Sem Cert.KernelIdeal

/-- The weights as the arguments hold them; the head and channel axes of the output projection are read as one. -/
def wts (w_o : FVec Ideal S16x48x768 .fp8e4m3) (w_o_scale : FVec Ideal S768 .f32) (w_sgate : FVec Ideal S384x2x768 .bf16)
    (b_sgate : FVec Ideal S2x768 .f32) (gain : FVec Ideal S384 .f32) (w_ada2 : FVec Ideal S384x2x768 .bf16)
    (b_ada2 : FVec Ideal S768 .f32) (w_in : FVec Ideal S768x2x1536 .fp8e4m3) (w_in_scale : FVec Ideal S2x1536 .f32)
    (w_out : FVec Ideal S1536x768 .fp8e4m3) (w_out_scale : FVec Ideal S768 .f32) : Wts where
  wo k d := w_o (ix3 ⟨k / 48, by omega⟩ ⟨k % 48, by omega⟩ d)
  wos d := w_o_scale (ix1 d)
  wg j c d := w_sgate (ix3 c j d)
  bg j d := b_sgate (ix2 j d)
  gain c := gain (ix1 c)
  wa j c d := w_ada2 (ix3 c j d)
  ba d := b_ada2 (ix1 d)
  wi j c f := w_in (ix3 c j f)
  wis j f := w_in_scale (ix2 j f)
  wu f d := w_out (ix2 f d)
  wus d := w_out_scale (ix1 d)

/-- Token `n` of sample `b`. -/
def row (og_codes : FVec Ideal S12x896x16x48 .fp8e4m3) (og_scales : FVec Ideal S12x896 .f32)
    (a : FVec Ideal S12x896x768 .bf16) (s : FVec Ideal S12x896x384 .bf16) (b : Fin 12) (n : Fin 896) : Row where
  og k := og_codes (ix4 b n ⟨k / 48, by omega⟩ ⟨k % 48, by omega⟩)
  ogs := og_scales (ix2 b n)
  a d := a (ix3 b n d)
  s c := s (ix3 b n c)

/-! The six arrays the tail leaves, over all samples and tokens. -/

/-- The result. -/
def yArr (W : Wts) (R : Fin 12 → Fin 896 → Row) : FVec Ideal ⟨3, ![12, 896, 768]⟩ .bf16 := fun i => W.y (R (i 0) (i 1)) (i 2)
/-- The activation after the attention branch. -/
def amidArr (W : Wts) (R : Fin 12 → Fin 896 → Row) : FVec Ideal ⟨3, ![12, 896, 768]⟩ .f32 := fun i => W.amid (R (i 0) (i 1)) (i 2)
/-- The adaptive norm's codes. -/
def x2cArr (W : Wts) (R : Fin 12 → Fin 896 → Row) : FVec Ideal ⟨3, ![12, 896, 768]⟩ .fp8e4m3 := fun i => W.x2c (R (i 0) (i 1)) (i 2)
/-- The adaptive norm's scales. -/
def x2sArr (W : Wts) (R : Fin 12 → Fin 896 → Row) : FVec Ideal ⟨3, ![12, 1, 896]⟩ .f32 := fun i => W.x2s (R (i 0) (i 2))
/-- The hidden codes. -/
def hcArr (W : Wts) (R : Fin 12 → Fin 896 → Row) : FVec Ideal ⟨3, ![12, 896, 1536]⟩ .fp8e4m3 := fun i => W.hc (R (i 0) (i 1)) (i 2)
/-- The hidden scales. -/
def hsArr (W : Wts) (R : Fin 12 → Fin 896 → Row) : FVec Ideal ⟨3, ![12, 1, 896]⟩ .f32 := fun i => W.hs (R (i 0) (i 2))

end Cert.Tail
-- ==== Proof.Chunk.lean ====
module

public import proofs.«01_k».proof.Proof.Spec
public import proofs.«01_k».proof.Proof.Gen.KernelIdeal.Skeleton

/-! What one chunk of the kernel's body computes. A chunk reads `n` rows of the sample and the weights, and runs the
same operations on every row. -/

@[expose] public section

set_option maxRecDepth 16384

noncomputable section

namespace Cert.Tail

open Idealize.ShloMosaic Idealize.ShloMosaic.TcCoe Idealize.SL.Sem Cert.KernelIdeal Cert.KernelIdeal.Gen

/-- The values a chunk of `n` rows loads. -/
structure Loads (n : ℕ) where
  s : FVec Ideal ⟨3, ![1, n, 384]⟩ .bf16
  gain : FVec Ideal S1x384 .f32
  wg0 : FVec Ideal S1x384x768 .bf16
  bg0 : FVec Ideal S1x768 .f32
  ogs : FVec Ideal ⟨3, ![1, 1, n]⟩ .f32
  og : FVec Ideal ⟨3, ![1, n, 768]⟩ .fp8e4m3
  wo : FVec Ideal S768x768 .fp8e4m3
  wos : FVec Ideal S1x768 .f32
  a : FVec Ideal ⟨3, ![1, n, 768]⟩ .bf16
  wa0 : FVec Ideal S1x384x768 .bf16
  ba : FVec Ideal S1x768 .f32
  wa1 : FVec Ideal S1x384x768 .bf16
  wi0 : FVec Ideal S1x768x1536 .fp8e4m3
  wis0 : FVec Ideal S1x1536 .f32
  wi1 : FVec Ideal S1x768x1536 .fp8e4m3
  wis1 : FVec Ideal S1x1536 .f32
  wu : FVec Ideal S1536x768 .fp8e4m3
  wus : FVec Ideal S1x768 .f32
  wg1 : FVec Ideal S1x384x768 .bf16
  bg1 : FVec Ideal S1x768 .f32

/-- The loads `i` hold the weights `W` and, in their row `r`, the token `x`. -/
structure Reads {n : ℕ} (i : Loads n) (W : Wts) (x : Row) (r : Fin n) : Prop where
  s : ∀ c, i.s (ix3 0 r c) = x.s c
  gain : ∀ c, i.gain (ix2 0 c) = W.gain c
  wg0 : ∀ c d, i.wg0 (ix3 0 c d) = W.wg 0 c d
  bg0 : ∀ d, i.bg0 (ix2 0 d) = W.bg 0 d
  ogs : i.ogs (ix3 0 0 r) = x.ogs
  og : ∀ k, i.og (ix3 0 r k) = x.og k
  wo : ∀ k d, i.wo (ix2 k d) = W.wo k d
  wos : ∀ d, i.wos (ix2 0 d) = W.wos d
  a : ∀ d, i.a (ix3 0 r d) = x.a d
  wa0 : ∀ c d, i.wa0 (ix3 0 c d) = W.wa 0 c d
  ba : ∀ d, i.ba (ix2 0 d) = W.ba d
  wa1 : ∀ c d, i.wa1 (ix3 0 c d) = W.wa 1 c d
  wi0 : ∀ c f, i.wi0 (ix3 0 c f) = W.wi 0 c f
  wis0 : ∀ f, i.wis0 (ix2 0 f) = W.wis 0 f
  wi1 : ∀ c f, i.wi1 (ix3 0 c f) = W.wi 1 c f
  wis1 : ∀ f, i.wis1 (ix2 0 f) = W.wis 1 f
  wu : ∀ f d, i.wu (ix2 f d) = W.wu f d
  wus : ∀ d, i.wus (ix2 0 d) = W.wus d
  wg1 : ∀ c d, i.wg1 (ix3 0 c d) = W.wg 1 c d
  bg1 : ∀ d, i.bg1 (ix2 0 d) = W.bg 1 d

end Cert.Tail
-- ==== Proof.Reads.lean ====
module

public import proofs.«01_k».proof.Proof.Args
public import proofs.«01_k».proof.Proof.Chunk
public import proofs.«01_k».proof.Proof.Gen.KernelIdeal.Frame
public import Idealize.ShloMosaic.Lib.Pipeline.ValueKit
public import Idealize.ShloMosaic.Lib.Claim

/-! What a chunk loads at a grid point: the point's sample, the chunk's rows, and the weights. -/

@[expose] public section

set_option maxRecDepth 16384

noncomputable section

namespace Cert.Tail

open Idealize.ShloMosaic Idealize.ShloMosaic.TcCoe Idealize.SL.Sem Cert.KernelIdeal Cert.KernelIdeal.Gen

variable (m : (ℓ : Loc nD τ sig) → Buf (Elt Ideal) ℓ) (c : Dev nD)

/-- The weights in the kernel's arguments. -/
def kwts : Wts := wts (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13)) (m ((c : Thread nD τ).loc main_arg14))

/-- The tokens in the kernel's arguments. -/
def krow (b : Fin 12) (n : Fin 896) : Row := row (m ((c : Thread nD τ).loc main_arg0)) (m ((c : Thread nD τ).loc main_arg1))
  (m ((c : Thread nD τ).loc main_arg2)) (m ((c : Thread nD τ).loc main_arg3)) b n

/-- The index maps: a sample's blocks follow the grid point, the weights' blocks are the whole arrays. -/
theorem idx : ∀ t : Fin cfg0.N, t.val < 12 ∧ win0_0.index t = ![t.val, 0, 0] ∧ win0_1.index t = ![t.val, 0, 0]
    ∧ win0_2.index t = ![t.val, 0, 0] ∧ win0_3.index t = ![t.val, 0, 0] ∧ win0_4.index t = ![0, 0] ∧ win0_5.index t = ![0, 0]
    ∧ win0_6.index t = ![0, 0, 0] ∧ win0_7.index t = ![0, 0] ∧ win0_8.index t = ![0, 0] ∧ win0_9.index t = ![0, 0, 0]
    ∧ win0_10.index t = ![0, 0] ∧ win0_11.index t = ![0, 0, 0] ∧ win0_12.index t = ![0, 0] ∧ win0_13.index t = ![0, 0]
    ∧ win0_14.index t = ![0, 0] ∧ win0_15.index t = ![t.val, 0, 0] ∧ win0_16.index t = ![t.val, 0, 0]
    ∧ win0_17.index t = ![t.val, 0, 0] ∧ win0_18.index t = ![t.val, 0, 0] ∧ win0_19.index t = ![t.val, 0, 0]
    ∧ win0_20.index t = ![t.val, 0, 0] := (by decide +kernel : ∀ t : Fin grid0.N, _)

/-- The sample a grid point works on. -/
def smp (t : Fin cfg0.N) : Fin 12 := ⟨t.val, (idx t).1⟩

/-- The chunk of `n` rows from row `o`, at grid point `t`. -/
def loads (t : Fin cfg0.N) (n o : ℕ) (h : o + n ≤ 896) : Loads n where
  s := View.ld (iblk m c 3 t) (Rect.unit (s := S1x896x384) ![0, o, 0] ![1, n, 384] (by intro a; fin_cases a <;> simp <;> omega))
  gain := iblk m c 8 t
  wg0 := View.ld (iblk m c 6 t) (Rect.unit (s := S2x384x768) ![0, 0, 0] ![1, 384, 768] inb_S2x384x768_S1x384x768_0_0_0)
  bg0 := View.ld (iblk m c 7 t) (Rect.unit (s := S2x768) ![0, 0] ![1, 768] inb_S2x768_S1x768_0_0)
  ogs := View.ld (iblk m c 1 t) (Rect.unit (s := S1x1x896) ![0, 0, o] ![1, 1, n] (by intro a; fin_cases a <;> simp <;> omega))
  og := View.ld (iblk m c 0 t) (Rect.unit (s := S1x896x768) ![0, o, 0] ![1, n, 768] (by intro a; fin_cases a <;> simp <;> omega))
  wo := iblk m c 4 t
  wos := iblk m c 5 t
  a := View.ld (iblk m c 2 t) (Rect.unit (s := S1x896x768) ![0, o, 0] ![1, n, 768] (by intro a; fin_cases a <;> simp <;> omega))
  wa0 := View.ld (iblk m c 9 t) (Rect.unit (s := S2x384x768) ![0, 0, 0] ![1, 384, 768] inb_S2x384x768_S1x384x768_0_0_0)
  ba := iblk m c 10 t
  wa1 := View.ld (iblk m c 9 t) (Rect.unit (s := S2x384x768) ![1, 0, 0] ![1, 384, 768] inb_S2x384x768_S1x384x768_1_0_0)
  wi0 := View.ld (iblk m c 11 t) (Rect.unit (s := S2x768x1536) ![0, 0, 0] ![1, 768, 1536] inb_S2x768x1536_S1x768x1536_0_0_0)
  wis0 := View.ld (iblk m c 12 t) (Rect.unit (s := S2x1536) ![0, 0] ![1, 1536] inb_S2x1536_S1x1536_0_0)
  wi1 := View.ld (iblk m c 11 t) (Rect.unit (s := S2x768x1536) ![1, 0, 0] ![1, 768, 1536] inb_S2x768x1536_S1x768x1536_1_0_0)
  wis1 := View.ld (iblk m c 12 t) (Rect.unit (s := S2x1536) ![1, 0] ![1, 1536] inb_S2x1536_S1x1536_1_0)
  wu := iblk m c 13 t
  wus := iblk m c 14 t
  wg1 := View.ld (iblk m c 6 t) (Rect.unit (s := S2x384x768) ![1, 0, 0] ![1, 384, 768] inb_S2x384x768_S1x384x768_1_0_0)
  bg1 := View.ld (iblk m c 7 t) (Rect.unit (s := S2x768) ![1, 0] ![1, 768] inb_S2x768_S1x768_1_0)

/-! The blocks of the inputs, at coordinates. -/

/-- A grid point's block of the attention codes. -/
theorem blk0 (t : Fin cfg0.N) (n : Fin 896) (k : Fin 768) : iblk m c 0 t (ix3 0 n k) = (krow m c (smp t) n).og k := by
  blk_simp [iblk, idx t]
  entry_read
  have e : ((View.whole main_v0).slice (win0_0.rect t)).emb (ix3 0 n k) = ix3 (smp t) n k := by
    blk_ext [idx t, smp]
  rw [e]
  pointwise [krow, row]

/-- A grid point's block of the attention codes' scales. -/
theorem blk1 (t : Fin cfg0.N) (n : Fin 896) : iblk m c 1 t (ix3 0 0 n) = (krow m c (smp t) n).ogs := by
  blk_simp [iblk, idx t]
  entry_read
  have e : ((View.whole main_v1).slice (win0_1.rect t)).emb (ix3 0 0 n) = ix3 (smp t) 0 n := by
    blk_ext [idx t, smp]
  rw [e]
  pointwise [krow, row]

/-- A grid point's block of the activations. -/
theorem blk2 (t : Fin cfg0.N) (n : Fin 896) (d : Fin 768) : iblk m c 2 t (ix3 0 n d) = (krow m c (smp t) n).a d := by
  pointwise [krow, row, smp]
  blk_point [iblk, V, idx t]

/-- A grid point's block of the conditioning rows. -/
theorem blk3 (t : Fin cfg0.N) (n : Fin 896) (k : Fin 384) : iblk m c 3 t (ix3 0 n k) = (krow m c (smp t) n).s k := by
  pointwise [krow, row, smp]
  blk_point [iblk, V, idx t]

/-- A grid point's block of the out projection's weights. -/
theorem blk4 (t : Fin cfg0.N) (k d : Fin 768) : iblk m c 4 t (ix2 k d) = (kwts m c).wo k d := by
  blk_simp [iblk, idx t]
  entry_read
  have e : ((View.whole main_v2).slice (win0_4.rect t)).emb (ix2 k d) = ix2 k d := by
    blk_ext [idx t, smp]
  rw [e]
  pointwise [kwts, wts]

/-- A grid point's block of the out projection's scales. -/
theorem blk5 (t : Fin cfg0.N) (d : Fin 768) : iblk m c 5 t (ix2 0 d) = (kwts m c).wos d := by
  blk_simp [iblk, idx t]
  entry_read
  have e : ((View.whole main_v3).slice (win0_5.rect t)).emb (ix2 0 d) = ix2 0 d := by
    blk_ext [idx t, smp]
  rw [e]
  pointwise [kwts, wts]

/-- A grid point's block of the gates' weights. -/
theorem blk6 (t : Fin cfg0.N) (j : Fin 2) (k : Fin 384) (d : Fin 768) : iblk m c 6 t (ix3 j k d) = (kwts m c).wg j k d := by
  blk_simp [iblk, idx t]
  entry_read
  have e : ((View.whole main_v4).slice (win0_6.rect t)).emb (ix3 j k d) = ix3 j k d := by
    blk_ext [idx t, smp]
  rw [e]
  pointwise [kwts, wts]

/-- A grid point's block of the gates' biases. -/
theorem blk7 (t : Fin cfg0.N) (j : Fin 2) (d : Fin 768) : iblk m c 7 t (ix2 j d) = (kwts m c).bg j d := by
  pointwise [kwts, wts]
  blk_point [iblk, V, idx t]

/-- A grid point's block of the conditioning gain. -/
theorem blk8 (t : Fin cfg0.N) (k : Fin 384) : iblk m c 8 t (ix2 0 k) = (kwts m c).gain k := by
  blk_simp [iblk, idx t]
  entry_read
  have e : ((View.whole main_v5).slice (win0_8.rect t)).emb (ix2 0 k) = ix2 0 k := by
    blk_ext [idx t, smp]
  rw [e]
  pointwise [kwts, wts]

/-- A grid point's block of the adaptive norm's weights. -/
theorem blk9 (t : Fin cfg0.N) (j : Fin 2) (k : Fin 384) (d : Fin 768) : iblk m c 9 t (ix3 j k d) = (kwts m c).wa j k d := by
  blk_simp [iblk, idx t]
  entry_read
  have e : ((View.whole main_v6).slice (win0_9.rect t)).emb (ix3 j k d) = ix3 j k d := by
    blk_ext [idx t, smp]
  rw [e]
  pointwise [kwts, wts]

/-- A grid point's block of the adaptive norm's bias. -/
theorem blk10 (t : Fin cfg0.N) (d : Fin 768) : iblk m c 10 t (ix2 0 d) = (kwts m c).ba d := by
  blk_simp [iblk, idx t]
  entry_read
  have e : ((View.whole main_v7).slice (win0_10.rect t)).emb (ix2 0 d) = ix2 0 d := by
    blk_ext [idx t, smp]
  rw [e]
  pointwise [kwts, wts]

/-- A grid point's block of the first feed-forward weights. -/
theorem blk11 (t : Fin cfg0.N) (j : Fin 2) (k : Fin 768) (f : Fin 1536) : iblk m c 11 t (ix3 j k f) = (kwts m c).wi j k f := by
  blk_simp [iblk, idx t]
  entry_read
  have e : ((View.whole main_v8).slice (win0_11.rect t)).emb (ix3 j k f) = ix3 j k f := by
    blk_ext [idx t, smp]
  rw [e]
  pointwise [kwts, wts]

/-- A grid point's block of the first feed-forward scales. -/
theorem blk12 (t : Fin cfg0.N) (j : Fin 2) (f : Fin 1536) : iblk m c 12 t (ix2 j f) = (kwts m c).wis j f := by
  pointwise [kwts, wts]
  blk_point [iblk, V, idx t]

/-- A grid point's block of the second feed-forward weights. -/
theorem blk13 (t : Fin cfg0.N) (f : Fin 1536) (d : Fin 768) : iblk m c 13 t (ix2 f d) = (kwts m c).wu f d := by
  pointwise [kwts, wts]
  blk_point [iblk, V, idx t]

/-- A grid point's block of the second feed-forward scales. -/
theorem blk14 (t : Fin cfg0.N) (d : Fin 768) : iblk m c 14 t (ix2 0 d) = (kwts m c).wus d := by
  blk_simp [iblk, idx t]
  entry_read
  have e : ((View.whole main_v9).slice (win0_14.rect t)).emb (ix2 0 d) = ix2 0 d := by
    blk_ext [idx t, smp]
  rw [e]
  pointwise [kwts, wts]

/-- A chunk's loads hold the weights and, in row `r`, token `o + r` of the point's sample. -/
theorem loads_reads (t : Fin cfg0.N) (n o : ℕ) (h : o + n ≤ 896) (r : Fin n) :
    Reads (loads m c t n o h) (kwts m c) (krow m c (smp t) ⟨o + r, by omega⟩) r where
  s k := by pointwise [loads]; exact blk3 m c t _ k
  gain k := blk8 m c t k
  wg0 k d := by pointwise [loads]; exact blk6 m c t 0 k d
  bg0 d := by pointwise [loads]; exact blk7 m c t 0 d
  ogs := by pointwise [loads]; exact blk1 m c t _
  og k := by pointwise [loads]; exact blk0 m c t _ k
  wo k d := blk4 m c t k d
  wos d := blk5 m c t d
  a d := by pointwise [loads]; exact blk2 m c t _ d
  wa0 k d := by pointwise [loads]; exact blk9 m c t 0 k d
  ba d := blk10 m c t d
  wa1 k d := by pointwise [loads]; exact blk9 m c t 1 k d
  wi0 k f := by pointwise [loads]; exact blk11 m c t 0 k f
  wis0 f := by pointwise [loads]; exact blk12 m c t 0 f
  wi1 k f := by pointwise [loads]; exact blk11 m c t 1 k f
  wis1 f := by pointwise [loads]; exact blk12 m c t 1 f
  wu f d := blk13 m c t f d
  wus d := blk14 m c t d
  wg1 k d := by pointwise [loads]; exact blk6 m c t 1 k d
  bg1 d := by pointwise [loads]; exact blk7 m c t 1 d

end Cert.Tail
-- ==== Proof.Pieces.lean ====
module

public import proofs.«01_k».proof.Proof.Reads

@[expose] public section
noncomputable section
namespace Cert.Tail
open Idealize.ShloMosaic

/-- A block of 896 rows written by four stores, of rows 0–255, 256–511, 512–767 and 768–895, reads `G` everywhere when each
    store's payload holds its own rows of `G`. -/
theorem canon_rows {e : EltTy} (D : ℕ) (G : Fin 896 → Fin D → Elt Ideal e)
    (i3 : ∀ a, (![0, 768, 0] : Fin 3 → ℕ) a + (![1, 128, D] : Fin 3 → ℕ) a ≤ (![1, 896, D] : Fin 3 → ℕ) a)
    (i2 : ∀ a, (![0, 512, 0] : Fin 3 → ℕ) a + (![1, 256, D] : Fin 3 → ℕ) a ≤ (![1, 896, D] : Fin 3 → ℕ) a)
    (i1 : ∀ a, (![0, 256, 0] : Fin 3 → ℕ) a + (![1, 256, D] : Fin 3 → ℕ) a ≤ (![1, 896, D] : Fin 3 → ℕ) a)
    (i0 : ∀ a, (![0, 0, 0] : Fin 3 → ℕ) a + (![1, 256, D] : Fin 3 → ℕ) a ≤ (![1, 896, D] : Fin 3 → ℕ) a)
    (p3 : (⟨3, ![1, 128, D]⟩ : Shape).Idx → Elt Ideal e) (p2 p1 p0 : (⟨3, ![1, 256, D]⟩ : Shape).Idx → Elt Ideal e)
    (h3 : ∀ r d, p3 (ix3 0 r d) = G ⟨768 + r, by omega⟩ d) (h2 : ∀ r d, p2 (ix3 0 r d) = G ⟨512 + r, by omega⟩ d)
    (h1 : ∀ r d, p1 (ix3 0 r d) = G ⟨256 + r, by omega⟩ d) (h0 : ∀ r d, p0 (ix3 0 r d) = G ⟨0 + r, by omega⟩ d)
    (y : (⟨3, ![1, 896, D]⟩ : Shape).Idx) :
    View.canon [(⟨Rect.unit (s := ⟨3, ![1, 896, D]⟩) ![0, 768, 0] ![1, 128, D] i3, p3⟩ : View.Piece (Elt Ideal) ⟨3, ![1, 896, D]⟩ e),
      ⟨Rect.unit ![0, 512, 0] ![1, 256, D] i2, p2⟩, ⟨Rect.unit ![0, 256, 0] ![1, 256, D] i1, p1⟩,
      ⟨Rect.unit ![0, 0, 0] ![1, 256, D] i0, p0⟩] y = G (y 1) (y 2) := by
  have key : ∀ (n o : ℕ) (p : (⟨3, ![1, n, D]⟩ : Shape).Idx → Elt Ideal e) (ho : o + n ≤ 896)
      (h : ∀ (r : Fin n) d, p (ix3 0 r d) = G ⟨o + r, by omega⟩ d),
      View.TileAt y ![0, o, 0] ![1, n, D] p (G (y 1) (y 2)) := by
    intro n o p ho h x hx
    obtain ⟨u, r, d, rfl⟩ : ∃ u r d, x = ix3 u r d := ⟨_, _, _, eq_ix3 x⟩
    obtain rfl : u = 0 := Subsingleton.elim _ _
    have e1 : y 1 = (⟨o + r, by omega⟩ : Fin 896) := Fin.ext (hx 1)
    have e2 : y 2 = d := Fin.ext ((hx 2).trans (Nat.zero_add _))
    rw [h, e1, e2]
  have hy0 : (y 0).val < 1 := (y 0).isLt
  have hy1 : (y 1).val < 896 := (y 1).isLt
  have hy2 : (y 2).val < D := (y 2).isLt
  have mem : ∀ (o n : ℕ) (i : ∀ a, (![0, o, 0] : Fin 3 → ℕ) a + (![1, n, D] : Fin 3 → ℕ) a ≤ (![1, 896, D] : Fin 3 → ℕ) a),
      o ≤ (y 1).val → (y 1).val < o + n → y ∈ (Rect.unit (s := ⟨3, ![1, 896, D]⟩) ![0, o, 0] ![1, n, D] i).set := by
    intro o n i ha hb
    rw [Rect.mem_set_unit]
    intro a
    fin_cases a
    · exact ⟨Nat.zero_le _, by show (y 0).val < 0 + 1; omega⟩
    · exact ⟨ha, hb⟩
    · exact ⟨Nat.zero_le _, by show (y 2).val < 0 + D; omega⟩
  refine View.canon_eq_of_allAt _ _ _ ?_ ?_
  · rcases (show (y 1).val < 256 ∨ (256 ≤ (y 1).val ∧ (y 1).val < 512) ∨ (512 ≤ (y 1).val ∧ (y 1).val < 768) ∨ 768 ≤ (y 1).val by omega)
      with h | ⟨ha, hb⟩ | ⟨ha, hb⟩ | h
    · exact ⟨_, List.mem_cons_of_mem _ (List.mem_cons_of_mem _ (List.mem_cons_of_mem _ List.mem_cons_self)), mem 0 256 i0 (by omega) (by omega)⟩
    · exact ⟨_, List.mem_cons_of_mem _ (List.mem_cons_of_mem _ List.mem_cons_self), mem 256 256 i1 ha (by omega)⟩
    · exact ⟨_, List.mem_cons_of_mem _ List.mem_cons_self, mem 512 256 i2 ha (by omega)⟩
    · exact ⟨_, List.mem_cons_self, mem 768 128 i3 h (by omega)⟩
  · exact View.allAt_cons_unit _ _ _ _ _ (key 128 768 p3 (by omega) h3) <| View.allAt_cons_unit _ _ _ _ _ (key 256 512 p2 (by omega) h2) <|
      View.allAt_cons_unit _ _ _ _ _ (key 256 256 p1 (by omega) h1) <| View.allAt_cons_unit _ _ _ _ _ (key 256 0 p0 (by omega) h0) <|
      View.allAt_nil _ _

/-- A row of 896 entries written by four stores, of entries 0–255, 256–511, 512–767 and 768–895, reads `G` everywhere when each
    store's payload holds its own entries of `G`. -/
theorem canon_lanes {e : EltTy} (G : Fin 896 → Elt Ideal e)
    (i3 : ∀ a, (![0, 0, 768] : Fin 3 → ℕ) a + (![1, 1, 128] : Fin 3 → ℕ) a ≤ (![1, 1, 896] : Fin 3 → ℕ) a)
    (i2 : ∀ a, (![0, 0, 512] : Fin 3 → ℕ) a + (![1, 1, 256] : Fin 3 → ℕ) a ≤ (![1, 1, 896] : Fin 3 → ℕ) a)
    (i1 : ∀ a, (![0, 0, 256] : Fin 3 → ℕ) a + (![1, 1, 256] : Fin 3 → ℕ) a ≤ (![1, 1, 896] : Fin 3 → ℕ) a)
    (i0 : ∀ a, (![0, 0, 0] : Fin 3 → ℕ) a + (![1, 1, 256] : Fin 3 → ℕ) a ≤ (![1, 1, 896] : Fin 3 → ℕ) a)
    (p3 : (⟨3, ![1, 1, 128]⟩ : Shape).Idx → Elt Ideal e) (p2 p1 p0 : (⟨3, ![1, 1, 256]⟩ : Shape).Idx → Elt Ideal e)
    (h3 : ∀ r, p3 (ix3 0 0 r) = G ⟨768 + r, by omega⟩) (h2 : ∀ r, p2 (ix3 0 0 r) = G ⟨512 + r, by omega⟩)
    (h1 : ∀ r, p1 (ix3 0 0 r) = G ⟨256 + r, by omega⟩) (h0 : ∀ r, p0 (ix3 0 0 r) = G ⟨0 + r, by omega⟩)
    (y : (⟨3, ![1, 1, 896]⟩ : Shape).Idx) :
    View.canon [(⟨Rect.unit (s := ⟨3, ![1, 1, 896]⟩) ![0, 0, 768] ![1, 1, 128] i3, p3⟩ : View.Piece (Elt Ideal) ⟨3, ![1, 1, 896]⟩ e),
      ⟨Rect.unit ![0, 0, 512] ![1, 1, 256] i2, p2⟩, ⟨Rect.unit ![0, 0, 256] ![1, 1, 256] i1, p1⟩,
      ⟨Rect.unit ![0, 0, 0] ![1, 1, 256] i0, p0⟩] y = G (y 2) := by
  have key : ∀ (n o : ℕ) (p : (⟨3, ![1, 1, n]⟩ : Shape).Idx → Elt Ideal e) (ho : o + n ≤ 896)
      (h : ∀ (r : Fin n), p (ix3 0 0 r) = G ⟨o + r, by omega⟩),
      View.TileAt y ![0, 0, o] ![1, 1, n] p (G (y 2)) := by
    intro n o p ho h x hx
    obtain ⟨u, w, r, rfl⟩ : ∃ u w r, x = ix3 u w r := ⟨_, _, _, eq_ix3 x⟩
    obtain rfl : u = 0 := Subsingleton.elim _ _
    obtain rfl : w = 0 := Subsingleton.elim _ _
    have e2 : y 2 = (⟨o + r, by omega⟩ : Fin 896) := Fin.ext (hx 2)
    rw [h, e2]
  have hy0 : (y 0).val < 1 := (y 0).isLt
  have hy1 : (y 1).val < 1 := (y 1).isLt
  have hy2 : (y 2).val < 896 := (y 2).isLt
  have mem : ∀ (o n : ℕ) (i : ∀ a, (![0, 0, o] : Fin 3 → ℕ) a + (![1, 1, n] : Fin 3 → ℕ) a ≤ (![1, 1, 896] : Fin 3 → ℕ) a),
      o ≤ (y 2).val → (y 2).val < o + n → y ∈ (Rect.unit (s := ⟨3, ![1, 1, 896]⟩) ![0, 0, o] ![1, 1, n] i).set := by
    intro o n i ha hb
    rw [Rect.mem_set_unit]
    intro a
    fin_cases a
    · exact ⟨Nat.zero_le _, by show (y 0).val < 0 + 1; omega⟩
    · exact ⟨Nat.zero_le _, by show (y 1).val < 0 + 1; omega⟩
    · exact ⟨ha, hb⟩
  refine View.canon_eq_of_allAt _ _ _ ?_ ?_
  · rcases (show (y 2).val < 256 ∨ (256 ≤ (y 2).val ∧ (y 2).val < 512) ∨ (512 ≤ (y 2).val ∧ (y 2).val < 768) ∨ 768 ≤ (y 2).val by omega)
      with h | ⟨ha, hb⟩ | ⟨ha, hb⟩ | h
    · exact ⟨_, List.mem_cons_of_mem _ (List.mem_cons_of_mem _ (List.mem_cons_of_mem _ List.mem_cons_self)), mem 0 256 i0 (by omega) (by omega)⟩
    · exact ⟨_, List.mem_cons_of_mem _ (List.mem_cons_of_mem _ List.mem_cons_self), mem 256 256 i1 ha (by omega)⟩
    · exact ⟨_, List.mem_cons_of_mem _ List.mem_cons_self, mem 512 256 i2 ha (by omega)⟩
    · exact ⟨_, List.mem_cons_self, mem 768 128 i3 h (by omega)⟩
  · exact View.allAt_cons_unit _ _ _ _ _ (key 128 768 p3 (by omega) h3) <| View.allAt_cons_unit _ _ _ _ _ (key 256 512 p2 (by omega) h2) <|
      View.allAt_cons_unit _ _ _ _ _ (key 256 256 p1 (by omega) h1) <| View.allAt_cons_unit _ _ _ _ _ (key 256 0 p0 (by omega) h0) <|
      View.allAt_nil _ _

end Cert.Tail
-- ==== Proof.Chunk256.lean ====
module

public import proofs.«01_k».proof.Proof.Chunk

/-! A chunk of 256 rows, read one row at a time: every value it stores is the mathematics of that row. The names are
those of the first chunk; the second and third chunks run the same operations. -/

@[expose] public section

set_option maxRecDepth 16384

noncomputable section

namespace Cert.Tail.C256

open Idealize.ShloMosaic Idealize.ShloMosaic.TcCoe Idealize.SL.Sem Cert.KernelIdeal Cert.KernelIdeal.Gen

/-- Two halves of 128 entries joined are the row they were cut from. -/
theorem half_eq (r : Fin 256) (f : Fin 256 → EReal) :
    (if hr : (r : ℕ) < 128 then f r else f ⟨128 + ((r : ℕ) - 128), by omega⟩) = f r := by
  split
  · rfl
  · exact congrArg f (Fin.ext (show 128 + ((r : ℕ) - 128) = r by omega))

section Quantiser
variable (u v w : FVec Ideal S256x768 .f32) (z : FVec Ideal S256x1 .f32) (sc : FVec Ideal S256x1 .f32)
  (xc : FVec Ideal S256x768 .fp8e4m3) (wi0 wi1 : FVec Ideal S1x768x1536 .fp8e4m3) (s0 s1 : FVec Ideal S1x1536 .f32) (r : Fin 256)

/-- A row over its scale. -/
theorem quot_at (p : FVec Ideal S256x768 .f32) (d : Fin 768) :
    divf p (broadcastTo S256x768 z broadcasts_S256x1_S256x768) (ix2 r d) = Ideal.div (p (ix2 r d)) (z (ix2 r 0)) := by
  pointwise []

/-- A hidden row over its scale. -/
theorem quot2_at (p : FVec Ideal S256x1536 .f32) (f : Fin 1536) :
    divf p (broadcastTo S256x1536 z broadcasts_S256x1_S256x1536) (ix2 r f) = Ideal.div (p (ix2 r f)) (z (ix2 r 0)) := by
  pointwise []

/-- The scale that the kernel takes of a row of the adaptive norm. -/
theorem pay14_at : k0_pay14 u v w z (ix2 r 0) = qscale fun d => k0_pay13 u v w z (ix2 r d) := by
  refine (scaleOf_at _ _).trans (congrArg scaleOf ?_)
  pointwise []; rfl

/-- The codes that the kernel takes of a row of the adaptive norm. -/
theorem pay15_at (d : Fin 768) : k0_pay15 u v w z (ix2 r d) = qcode (fun d => k0_pay13 u v w z (ix2 r d)) d := by
  rw [qcode, ← pay14_at]
  refine (clip_cast_at _ _ _).trans ?_
  exact congrArg clip (quot_at (k0_pay14 u v w z) r (k0_pay13 u v w z) d)

/-- The hidden row from the codes and the scale. -/
theorem pay20_at (f : Fin 1536) : k0_pay20 sc xc wi0 s0 wi1 s1 (ix2 r f)
    = proj (fun k => xc (ix2 r k)) (fun k f => wi0 (ix3 0 k f)) (sc (ix2 r 0)) (fun f => s0 (ix2 0 f)) f
      * Ideal.logistic (proj (fun k => xc (ix2 r k)) (fun k f => wi0 (ix3 0 k f)) (sc (ix2 r 0)) (fun f => s0 (ix2 0 f)) f)
      * proj (fun k => xc (ix2 r k)) (fun k f => wi1 (ix3 0 k f)) (sc (ix2 r 0)) (fun f => s1 (ix2 0 f)) f := by
  pointwise [k0_pay20]; simp only [proj]

/-- The scale that the kernel takes of a hidden row. -/
theorem pay21_at : k0_pay21 sc xc wi0 s0 wi1 s1 (ix2 r 0) = qscale fun f => k0_pay20 sc xc wi0 s0 wi1 s1 (ix2 r f) := by
  refine (scaleOf_at _ _).trans (congrArg scaleOf ?_)
  pointwise []; rfl

/-- The codes that the kernel takes of a hidden row. -/
theorem pay22_at (f : Fin 1536) :
    k0_pay22 sc xc wi0 s0 wi1 s1 (ix2 r f) = qcode (fun f => k0_pay20 sc xc wi0 s0 wi1 s1 (ix2 r f)) f := by
  rw [qcode, ← pay21_at]
  refine (clip_at _ _).trans ?_
  exact congrArg clip (quot2_at (k0_pay21 sc xc wi0 s0 wi1 s1) r (k0_pay20 sc xc wi0 s0 wi1 s1) f)

/-- A row of the result: the gated down projection added to the activation. -/
theorem pay26_at (v1 : FVec Ideal S256x384 .bf16) (hq : FVec Ideal S256x1536 .f32) (wu : FVec Ideal S1536x768 .fp8e4m3)
    (wus : FVec Ideal S1x768 .f32) (wg : FVec Ideal S1x384x768 .bf16) (bg : FVec Ideal S1x768 .f32)
    (back : FVec Ideal S1x256x768 .f32) (d : Fin 768) : k0_pay26 v1 sc hq wu wus wg bg back (ix2 r d)
      = back (ix3 0 r d) + Ideal.logistic ((∑ c, v1 (ix2 r c) * wg (ix3 0 c d)) + bg (ix2 0 d))
        * proj (fun f => hq (ix2 r f)) (fun f d => wu (ix2 f d)) (sc (ix2 r 0)) (fun d => wus (ix2 0 d)) d := by
  pointwise [k0_pay26, k0_pay23]; simp only [proj]

end Quantiser

section Values
variable (i : Loads 256)

/-- The attention branch's gate. -/
def g0 : FVec Ideal S256x768 .f32 := k0_pay4 i.s i.wg0 i.bg0
/-- The activation after the attention branch. -/
def amid : FVec Ideal S256x768 .f32 := k0_pay8 (g0 i) (k0_pay6 i.ogs) (k0_pay7 i.ogs) i.og i.wo i.wos i.a
/-- The normalised conditioning rows. -/
def sn : FVec Ideal S256x384 .bf16 := k0_pay3 i.s i.gain
/-- The second adaptive norm. -/
def x2 : FVec Ideal S256x768 .f32 := k0_pay13 (amid i) (k0_pay10 (sn i) i.wa0 i.ba) (k0_pay11 (sn i) i.wa1)
  (k0_pay12 (g0 i) (k0_pay6 i.ogs) (k0_pay7 i.ogs) i.og i.wo i.wos i.a)
/-- Its rows' scales. -/
def x2s : FVec Ideal S256x1 .f32 := k0_pay14 (amid i) (k0_pay10 (sn i) i.wa0 i.ba) (k0_pay11 (sn i) i.wa1)
  (k0_pay12 (g0 i) (k0_pay6 i.ogs) (k0_pay7 i.ogs) i.og i.wo i.wos i.a)
/-- Its codes. -/
def x2c : FVec Ideal S256x768 .fp8e4m3 := k0_pay15 (amid i) (k0_pay10 (sn i) i.wa0 i.ba) (k0_pay11 (sn i) i.wa1)
  (k0_pay12 (g0 i) (k0_pay6 i.ogs) (k0_pay7 i.ogs) i.og i.wo i.wos i.a)
/-- The hidden rows. -/
def hid : FVec Ideal S256x1536 .f32 := k0_pay20 (x2s i) (x2c i) i.wi0 i.wis0 i.wi1 i.wis1
/-- Their scales. -/
def hs : FVec Ideal S256x1 .f32 := k0_pay21 (x2s i) (x2c i) i.wi0 i.wis0 i.wi1 i.wis1
/-- The hidden codes, before the cast. -/
def hq : FVec Ideal S256x1536 .f32 := k0_pay22 (x2s i) (x2c i) i.wi0 i.wis0 i.wi1 i.wis1
/-- The activation after the attention branch as stored. -/
def amidOut : FVec Ideal S1x256x768 .f32 := k0_pay9 (g0 i) (k0_pay6 i.ogs) (k0_pay7 i.ogs) i.og i.wo i.wos i.a
/-- The adaptive norm's codes as stored. -/
def x2cOut : FVec Ideal S1x256x768 .fp8e4m3 := k0_pay16 (amid i) (k0_pay10 (sn i) i.wa0 i.ba) (k0_pay11 (sn i) i.wa1)
  (k0_pay12 (g0 i) (k0_pay6 i.ogs) (k0_pay7 i.ogs) i.og i.wo i.wos i.a)
/-- The adaptive norm's scales as stored, a row. -/
def x2sOut : FVec Ideal S1x1x256 .f32 := k0_pay19
  (k0_pay17 (amid i) (k0_pay10 (sn i) i.wa0 i.ba) (k0_pay11 (sn i) i.wa1)
    (k0_pay12 (g0 i) (k0_pay6 i.ogs) (k0_pay7 i.ogs) i.og i.wo i.wos i.a))
  (k0_pay18 (amid i) (k0_pay10 (sn i) i.wa0 i.ba) (k0_pay11 (sn i) i.wa1)
    (k0_pay12 (g0 i) (k0_pay6 i.ogs) (k0_pay7 i.ogs) i.og i.wo i.wos i.a))
/-- The hidden codes as stored. -/
def hcOut : FVec Ideal S1x256x1536 .fp8e4m3 := k0_pay24 (hq i)
/-- The hidden scales as stored, a row. -/
def hsOut : FVec Ideal S1x1x256 .f32 := k0_pay25 (hs i)
/-- The result as stored; `back` is the activation after the attention branch, loaded again. -/
def yOut (back : FVec Ideal S1x256x768 .f32) : FVec Ideal S1x256x768 .bf16 :=
  k0_pay27 (k0_pay26 (k0_pay2 i.s) (hs i) (hq i) i.wu i.wus i.wg1 i.bg1 back)

end Values

variable {i : Loads 256} {W : Wts} {x : Row} {r : Fin 256} (h : Reads i W x r)
include h

/-- At row `r`, the attention gate is its token's. -/
theorem g0_at (d : Fin 768) : g0 i (ix2 r d) = W.gate x 0 d := by
  pointwise [g0, k0_pay4, k0_pay2]
  simp only [h.s, h.wg0, h.bg0]
  rfl

/-- At row `r`, the activation after the attention branch is its token's. -/
theorem amid_at (d : Fin 768) : amid i (ix2 r d) = W.amid x d := by
  have hs := (half_eq r fun r => i.ogs (ix3 0 0 r)).trans h.ogs
  pointwise [amid, k0_pay8, k0_pay7, k0_pay6, k0_pay5]
  rw [g0_at h, hs]
  simp only [h.og, h.wo, h.wos, h.a]
  rfl

/-- At row `r`, the sum of the activation after the attention branch is its token's. -/
theorem amid_sum_at : k0_pay12 (g0 i) (k0_pay6 i.ogs) (k0_pay7 i.ogs) i.og i.wo i.wos i.a (ix2 r 0) = ∑ d, W.amid x d := by
  have e : k0_pay12 (F := Ideal) (g0 i) (k0_pay6 i.ogs) (k0_pay7 i.ogs) i.og i.wo i.wos i.a (ix2 r 0)
      = ∑ d, amid i (ix2 r d) := by
    pointwise [k0_pay12]; rfl
  rw [e]; exact Finset.sum_congr rfl fun d _ => amid_at h d

/-- At row `r`, the gained conditioning row is its token's. -/
theorem sn_at (c : Fin 384) : sn i (ix2 r c) = W.sn x c := by
  pointwise [sn, k0_pay3, k0_pay2]
  simp only [h.s, h.gain]
  rfl

/-- At row `r`, the adaptive norm's shift is its token's. -/
theorem shift_at (d : Fin 768) : k0_pay11 (sn i) i.wa1 (ix2 r d) = ∑ c, W.sn x c * W.wa 1 c d := by
  pointwise [k0_pay11]
  simp only [sn_at h, h.wa1]

/-- At row `r`, the adaptive norm's gate sum is its token's. -/
theorem gate_at (d : Fin 768) : k0_pay10 (sn i) i.wa0 i.ba (ix2 r d) = (∑ c, W.sn x c * W.wa 0 c d) + W.ba d := by
  pointwise [k0_pay10]
  simp only [sn_at h, h.wa0, h.ba]

/-- At row `r`, the second adaptive norm is its token's. -/
theorem x2_at (d : Fin 768) : x2 i (ix2 r d) = W.x2 x d := by
  pointwise [x2, k0_pay13]
  simp only [amid_at h, amid_sum_at h, shift_at h, gate_at h]
  rfl

/-- At row `r`, the adaptive norm's scale is its token's. -/
theorem x2s_at : x2s i (ix2 r 0) = W.x2s x :=
  (pay14_at _ _ _ _ r).trans (congrArg qscale (funext (x2_at h)))

/-- At row `r`, the adaptive norm's codes are its token's. -/
theorem x2c_at (d : Fin 768) : x2c i (ix2 r d) = W.x2c x d :=
  (pay15_at _ _ _ _ r d).trans (congrArg (fun v => qcode v d) (funext (x2_at h)))

/-- At row `r`, the hidden row is its token's. -/
theorem hid_at (f : Fin 1536) : hid i (ix2 r f) = W.hid x f := by
  refine (pay20_at _ _ _ _ _ _ r f).trans ?_
  simp only [x2s_at h, x2c_at h, h.wi0, h.wi1, h.wis0, h.wis1, Wts.hid, Wts.gu]

/-- At row `r`, the hidden scale is its token's. -/
theorem hs_at : hs i (ix2 r 0) = W.hs x :=
  (pay21_at _ _ _ _ _ _ r).trans (congrArg qscale (funext (hid_at h)))

/-- At row `r`, the hidden codes are its token's. -/
theorem hc_at (f : Fin 1536) : hq i (ix2 r f) = W.hc x f :=
  (pay22_at _ _ _ _ _ _ r f).trans (congrArg (fun v => qcode v f) (funext (hid_at h)))

/-- Row `r` of the stored activation after the attention branch. -/
theorem amidOut_at (d : Fin 768) : amidOut i (ix3 0 r d) = W.amid x d := by
  rw [← amid_at h]
  pointwise [amidOut, k0_pay9]
  rfl

/-- Row `r` of the stored codes of the adaptive norm. -/
theorem x2cOut_at (d : Fin 768) : x2cOut i (ix3 0 r d) = W.x2c x d := by
  rw [← x2c_at h]
  pointwise [x2cOut, k0_pay16]
  rfl

/-- Entry `r` of the stored scales of the adaptive norm. -/
theorem x2sOut_at : x2sOut i (ix3 0 0 r) = W.x2s x := by
  rw [← x2s_at h]
  pointwise [x2sOut, k0_pay19, k0_pay18, k0_pay17]
  exact half_eq r fun r => x2s i (ix2 r 0)

/-- Row `r` of the stored hidden codes. -/
theorem hcOut_at (f : Fin 1536) : hcOut i (ix3 0 r f) = W.hc x f := by
  rw [← hc_at h]
  pointwise [hcOut, k0_pay24, k0_pay23]

/-- Entry `r` of the stored hidden scales. -/
theorem hsOut_at : hsOut i (ix3 0 0 r) = W.hs x := by
  rw [← hs_at h]
  pointwise [hsOut, k0_pay25]
  exact half_eq r fun r => hs i (ix2 r 0)

/-- Row `r` of the stored result. -/
theorem yOut_at (back : FVec Ideal S1x256x768 .f32) (hb : ∀ d, back (ix3 0 r d) = W.amid x d) (d : Fin 768) :
    yOut i back (ix3 0 r d) = W.y x d := by
  have e : yOut i back (ix3 0 r d) = k0_pay26 (k0_pay2 i.s) (hs i) (hq i) i.wu i.wus i.wg1 i.bg1 back (ix2 r d) := by
    pointwise [yOut, k0_pay27]
  have hs2 : ∀ c, k0_pay2 (F := Ideal) i.s (ix2 r c) = x.s c := fun c => by pointwise [k0_pay2]; exact h.s c
  rw [e, pay26_at]
  simp only [hc_at h, hs_at h, hs2, h.wu, h.wus, h.wg1, h.bg1, hb, Wts.y, Wts.gate]

end Cert.Tail.C256
-- ==== Proof.Chunks.lean ====
module

public import proofs.«01_k».proof.Proof.Chunk256

@[expose] public section
set_option maxRecDepth 16384
noncomputable section
namespace Cert.Tail.C256
open Idealize.ShloMosaic Cert.KernelIdeal Cert.KernelIdeal.Gen

/-! The second and the third chunk of 256 rows run the first chunk's operations, cut into values at other places. Each value of
theirs is the first chunk's value of the same inputs. -/

variable (s : FVec Ideal S1x256x384 .bf16) (gain : FVec Ideal S1x384 .f32) (w : FVec Ideal S1x384x768 .bf16) (b : FVec Ideal S1x768 .f32)
  (o : FVec Ideal S1x1x256 .f32) (g gt : FVec Ideal S256x768 .f32) (og : FVec Ideal S1x256x768 .fp8e4m3) (wo : FVec Ideal S768x768 .fp8e4m3)
  (wos : FVec Ideal S1x768 .f32) (a : FVec Ideal S1x256x768 .bf16) (sn : FVec Ideal S256x384 .bf16) (wa0 wa1 : FVec Ideal S1x384x768 .bf16)
  (ba : FVec Ideal S1x768 .f32) (sc : FVec Ideal S256x1 .f32) (xc : FVec Ideal S256x768 .fp8e4m3) (wi0 wi1 : FVec Ideal S1x768x1536 .fp8e4m3)
  (wis0 wis1 : FVec Ideal S1x1536 .f32) (hs : FVec Ideal S256x1 .f32) (hq : FVec Ideal S256x1536 .f32) (wu : FVec Ideal S1536x768 .fp8e4m3)
  (wus : FVec Ideal S1x768 .f32) (wg1 : FVec Ideal S1x384x768 .bf16) (bg1 : FVec Ideal S1x768 .f32) (back : FVec Ideal S1x256x768 .f32)
  (p q : FVec Ideal S128x128 .f32)

/-! The second chunk. -/

/-- The attention gate: the second chunk's value is the first chunk's function. -/
theorem g0_1 : k0_pay30 s w b = k0_pay4 (F := Ideal) s w b := rfl
/-- The gained conditioning rows: the second chunk's value is the first chunk's function. -/
theorem sn_1 : k0_pay29 s gain = k0_pay3 (F := Ideal) s gain := rfl
/-- The activation after the attention branch: the second chunk's value is the first chunk's function. -/
theorem amid_1 : k0_pay33 g (k0_pay31 o) (k0_pay32 o) og wo wos a = k0_pay8 g (k0_pay6 o) (k0_pay7 o) og wo wos a := rfl
/-- That activation as stored: the second chunk's value is the first chunk's function. -/
theorem amidOut_1 : k0_pay34 g (k0_pay31 o) (k0_pay32 o) og wo wos a = k0_pay9 g (k0_pay6 o) (k0_pay7 o) og wo wos a := rfl
/-- The adaptive norm's gate sum: the second chunk's value is the first chunk's function. -/
theorem gate_1 : k0_pay35 sn w b = k0_pay10 sn w b := rfl
/-- The adaptive norm's scales: the second chunk's value is the first chunk's function. -/
theorem x2s_1 : k0_pay37 sn (k0_pay8 g p q og wo wos a) gt wa1
    = k0_pay14 (k0_pay8 g p q og wo wos a) gt (k0_pay11 sn wa1) (k0_pay12 g p q og wo wos a) := rfl
/-- The adaptive norm's codes: the second chunk's value is the first chunk's function. -/
theorem x2c_1 : k0_pay38 sn (k0_pay8 g p q og wo wos a) gt wa1
    = k0_pay15 (k0_pay8 g p q og wo wos a) gt (k0_pay11 sn wa1) (k0_pay12 g p q og wo wos a) := rfl
/-- The adaptive norm's codes as stored: the second chunk's value is the first chunk's function. -/
theorem x2cOut_1 : k0_pay39 sn (k0_pay8 g p q og wo wos a) gt wa1
    = k0_pay16 (k0_pay8 g p q og wo wos a) gt (k0_pay11 sn wa1) (k0_pay12 g p q og wo wos a) := rfl
/-- The adaptive norm's scales as stored: the second chunk's value is the first chunk's function. -/
theorem x2sOut_1 : k0_pay41 (k0_pay14 (k0_pay8 g p q og wo wos a) gt (k0_pay11 sn wa1) (k0_pay12 g p q og wo wos a))
      (k0_pay40 sn (k0_pay8 g p q og wo wos a) gt wa1)
    = k0_pay19 (k0_pay17 (k0_pay8 g p q og wo wos a) gt (k0_pay11 sn wa1) (k0_pay12 g p q og wo wos a))
      (k0_pay18 (k0_pay8 g p q og wo wos a) gt (k0_pay11 sn wa1) (k0_pay12 g p q og wo wos a)) := rfl
/-- The hidden scales: the second chunk's value is the first chunk's function. -/
theorem hs_1 : k0_pay43 sc xc wi0 wis0 wi1 wis1 = k0_pay21 sc xc wi0 wis0 wi1 wis1 := rfl
/-- The hidden codes as stored: the second chunk's value is the first chunk's function. -/
theorem hcOut_1 : k0_pay46 (k0_pay44 sc xc wi0 wis0 wi1 wis1) = k0_pay24 (k0_pay22 sc xc wi0 wis0 wi1 wis1) := rfl
/-- The hidden scales as stored: the second chunk's value is the first chunk's function. -/
theorem hsOut_1 : k0_pay47 hs = k0_pay25 hs := rfl
/-- The result as stored: the second chunk's value is the first chunk's function. -/
theorem yOut_1 : k0_pay50 (k0_pay48 hs (k0_pay44 sc xc wi0 wis0 wi1 wis1) wu wus) (k0_pay49 (k0_pay28 s) wg1 bg1) back
    = k0_pay27 (k0_pay26 (k0_pay2 s) hs (k0_pay22 sc xc wi0 wis0 wi1 wis1) wu wus wg1 bg1 back) := rfl

/-! The third chunk. -/

/-- The attention gate: the third chunk's value is the first chunk's function. -/
theorem g0_2 : k0_pay53 s w b = k0_pay4 (F := Ideal) s w b := rfl
/-- The gained conditioning rows: the third chunk's value is the first chunk's function. -/
theorem sn_2 : k0_pay52 s gain = k0_pay3 (F := Ideal) s gain := rfl
/-- The activation after the attention branch: the third chunk's value is the first chunk's function. -/
theorem amid_2 : k0_pay54 g o og wo wos a = k0_pay8 g (k0_pay6 o) (k0_pay7 o) og wo wos a := rfl
/-- That activation as stored: the third chunk's value is the first chunk's function. -/
theorem amidOut_2 : k0_pay55 g o og wo wos a = k0_pay9 g (k0_pay6 o) (k0_pay7 o) og wo wos a := rfl
/-- The adaptive norm's scales: the third chunk's value is the first chunk's function. -/
theorem x2s_2 : k0_pay59 sn (k0_pay8 g p q og wo wos a) (k0_pay56 sn wa0) (k0_pay57 ba) wa1
    = k0_pay14 (k0_pay8 g p q og wo wos a) (k0_pay10 sn wa0 ba) (k0_pay11 sn wa1) (k0_pay12 g p q og wo wos a) := rfl
/-- The adaptive norm's codes: the third chunk's value is the first chunk's function. -/
theorem x2c_2 : k0_pay60 sn (k0_pay8 g p q og wo wos a) (k0_pay56 sn wa0) (k0_pay57 ba) wa1
    = k0_pay15 (k0_pay8 g p q og wo wos a) (k0_pay10 sn wa0 ba) (k0_pay11 sn wa1) (k0_pay12 g p q og wo wos a) := rfl
/-- The adaptive norm's codes as stored: the third chunk's value is the first chunk's function. -/
theorem x2cOut_2 : k0_pay61 (k0_pay15 (k0_pay8 g p q og wo wos a) (k0_pay10 sn wa0 ba) (k0_pay11 sn wa1) (k0_pay12 g p q og wo wos a))
    = k0_pay16 (k0_pay8 g p q og wo wos a) (k0_pay10 sn wa0 ba) (k0_pay11 sn wa1) (k0_pay12 g p q og wo wos a) := rfl
/-- The adaptive norm's scales as stored: the third chunk's value is the first chunk's function. -/
theorem x2sOut_2 : k0_pay62 (k0_pay14 (k0_pay8 g p q og wo wos a) (k0_pay10 sn wa0 ba) (k0_pay11 sn wa1) (k0_pay12 g p q og wo wos a))
    = k0_pay19 (k0_pay17 (k0_pay8 g p q og wo wos a) (k0_pay10 sn wa0 ba) (k0_pay11 sn wa1) (k0_pay12 g p q og wo wos a))
      (k0_pay18 (k0_pay8 g p q og wo wos a) (k0_pay10 sn wa0 ba) (k0_pay11 sn wa1) (k0_pay12 g p q og wo wos a)) := rfl
/-- The hidden codes as stored: the third chunk's value is the first chunk's function. -/
theorem hcOut_2 : k0_pay69 (k0_pay63 sc xc wi0 wis0 wi1 wis1) (k0_pay64 sc xc wi0 wis0 wi1 wis1) (k0_pay65 sc xc wi0 wis0 wi1 wis1) k0_pay66
    = k0_pay24 (k0_pay22 sc xc wi0 wis0 wi1 wis1) := rfl
/-- The hidden scales as stored: the third chunk's value is the first chunk's function. -/
theorem hsOut_2 : k0_pay70 (k0_pay64 sc xc wi0 wis0 wi1 wis1) (k0_pay65 sc xc wi0 wis0 wi1 wis1) k0_pay66
    = k0_pay25 (k0_pay21 sc xc wi0 wis0 wi1 wis1) := rfl
/-- The result as stored: the third chunk's value is the first chunk's function. -/
theorem yOut_2 : k0_pay73 (k0_pay71 (k0_pay63 sc xc wi0 wis0 wi1 wis1) (k0_pay64 sc xc wi0 wis0 wi1 wis1)
      (k0_pay65 sc xc wi0 wis0 wi1 wis1) k0_pay66 wu wus) (k0_pay72 (k0_pay51 s) wg1) bg1 back
    = k0_pay27 (k0_pay26 (k0_pay2 s) (k0_pay21 sc xc wi0 wis0 wi1 wis1) (k0_pay22 sc xc wi0 wis0 wi1 wis1) wu wus wg1 bg1 back) := rfl

end Cert.Tail.C256
-- ==== Proof.Chunk128.lean ====
module

public import proofs.«01_k».proof.Proof.Chunk

/-! The last chunk, of 128 rows, read one row at a time: every value it stores is the mathematics of that row. -/

@[expose] public section

set_option maxRecDepth 16384

noncomputable section

namespace Cert.Tail.C128

open Idealize.ShloMosaic Idealize.ShloMosaic.TcCoe Idealize.SL.Sem Cert.KernelIdeal Cert.KernelIdeal.Gen

section Quantiser
variable (u v w : FVec Ideal S128x768 .f32) (z : FVec Ideal S128x1 .f32) (sc : FVec Ideal S128x1 .f32)
  (xc : FVec Ideal S128x768 .fp8e4m3) (wi0 wi1 : FVec Ideal S1x768x1536 .fp8e4m3) (s0 s1 : FVec Ideal S1x1536 .f32) (r : Fin 128)

/-- A row over its scale. -/
theorem quot_at (p : FVec Ideal S128x768 .f32) (d : Fin 768) :
    divf p (broadcastTo S128x768 z broadcasts_S128x1_S128x768) (ix2 r d) = Ideal.div (p (ix2 r d)) (z (ix2 r 0)) := by
  pointwise []

/-- A hidden row over its scale. -/
theorem quot2_at (p : FVec Ideal S128x1536 .f32) (f : Fin 1536) :
    divf p (broadcastTo S128x1536 z broadcasts_S128x1_S128x1536) (ix2 r f) = Ideal.div (p (ix2 r f)) (z (ix2 r 0)) := by
  pointwise []

/-- The scale that the kernel takes of a row of the adaptive norm. -/
theorem pay82_at (v620 : FVec Ideal S128x384 .bf16) (p : FVec Ideal S1x768 .f32) (q : FVec Ideal S1x384x768 .bf16) :
    k0_pay82 v620 u v p q (ix2 r 0) = qscale fun d => k0_pay81 v620 u v p q (ix2 r d) := by
  refine (scaleOf_at _ _).trans (congrArg scaleOf ?_)
  pointwise []; rfl

/-- The codes that the kernel takes of a row of the adaptive norm. -/
theorem pay83_at (v620 : FVec Ideal S128x384 .bf16) (p : FVec Ideal S1x768 .f32) (q : FVec Ideal S1x384x768 .bf16) (d : Fin 768) :
    k0_pay83 v620 u v p q (ix2 r d) = qcode (fun d => k0_pay81 v620 u v p q (ix2 r d)) d := by
  rw [qcode, ← pay82_at]
  refine (clip_cast_at _ _ _).trans ?_
  exact congrArg clip (quot_at (k0_pay82 v620 u v p q) r (k0_pay81 v620 u v p q) d)

/-- The hidden row from the codes and the scale. -/
theorem pay86_at (f : Fin 1536) : k0_pay86 sc xc wi0 s0 wi1 s1 (ix2 r f)
    = proj (fun k => xc (ix2 r k)) (fun k f => wi0 (ix3 0 k f)) (sc (ix2 r 0)) (fun f => s0 (ix2 0 f)) f
      * Ideal.logistic (proj (fun k => xc (ix2 r k)) (fun k f => wi0 (ix3 0 k f)) (sc (ix2 r 0)) (fun f => s0 (ix2 0 f)) f)
      * proj (fun k => xc (ix2 r k)) (fun k f => wi1 (ix3 0 k f)) (sc (ix2 r 0)) (fun f => s1 (ix2 0 f)) f := by
  pointwise [k0_pay86]; simp only [proj]

/-- The scale that the kernel takes of a hidden row. -/
theorem pay87_at : k0_pay87 sc xc wi0 s0 wi1 s1 (ix2 r 0) = qscale fun f => k0_pay86 sc xc wi0 s0 wi1 s1 (ix2 r f) := by
  refine (scaleOf_at _ _).trans (congrArg scaleOf ?_)
  pointwise []; rfl

/-- The codes that the kernel takes of a hidden row. -/
theorem pay88_at (f : Fin 1536) : k0_pay89 (k0_pay88 sc xc wi0 s0 wi1 s1) (Scalar.ofBits .f32 0xC3E00000#32) (ix2 r f)
    = qcode (fun f => k0_pay86 sc xc wi0 s0 wi1 s1 (ix2 r f)) f := by
  rw [qcode, ← pay87_at]
  refine (clip_cast_at _ _ _).trans ?_
  exact congrArg clip (quot2_at (k0_pay87 sc xc wi0 s0 wi1 s1) r (k0_pay86 sc xc wi0 s0 wi1 s1) f)

/-- A row of the result: the gated down projection added to the activation. -/
theorem pay92_at (v1 : FVec Ideal S128x384 .bf16) (hq : FVec Ideal S128x1536 .f32) (k : Ideal .f32) (wu : FVec Ideal S1536x768 .fp8e4m3)
    (wus : FVec Ideal S1x768 .f32) (wg : FVec Ideal S1x384x768 .bf16) (bg : FVec Ideal S1x768 .f32)
    (back : FVec Ideal S1x128x768 .f32) (d : Fin 768) : k0_pay92 v1 sc hq k wu wus wg bg back (ix2 r d)
      = back (ix3 0 r d) + Ideal.logistic ((∑ c, v1 (ix2 r c) * wg (ix3 0 c d)) + bg (ix2 0 d))
        * proj (fun f => k0_pay89 hq k (ix2 r f)) (fun f d => wu (ix2 f d)) (sc (ix2 r 0)) (fun d => wus (ix2 0 d)) d := by
  pointwise [k0_pay92]; simp only [proj]

end Quantiser

section Values
variable (i : Loads 128)

/-- The activation after the attention branch. -/
def amid : FVec Ideal S128x768 .f32 := k0_pay77 (k0_pay76 i.s i.wg0) i.bg0 i.ogs i.og i.wo i.wos i.a
/-- The normalised conditioning rows. -/
def sn : FVec Ideal S128x384 .bf16 := k0_pay75 i.s i.gain
/-- The second adaptive norm. -/
def x2 : FVec Ideal S128x768 .f32 := k0_pay81 (sn i) (amid i) (k0_pay79 (sn i) i.wa0) (k0_pay80 i.ba) i.wa1
/-- Its rows' scales. -/
def x2s : FVec Ideal S128x1 .f32 := k0_pay82 (sn i) (amid i) (k0_pay79 (sn i) i.wa0) (k0_pay80 i.ba) i.wa1
/-- Its codes. -/
def x2c : FVec Ideal S128x768 .fp8e4m3 := k0_pay83 (sn i) (amid i) (k0_pay79 (sn i) i.wa0) (k0_pay80 i.ba) i.wa1
/-- The hidden rows. -/
def hid : FVec Ideal S128x1536 .f32 := k0_pay86 (x2s i) (x2c i) i.wi0 i.wis0 i.wi1 i.wis1
/-- Their scales. -/
def hs : FVec Ideal S128x1 .f32 := k0_pay87 (x2s i) (x2c i) i.wi0 i.wis0 i.wi1 i.wis1
/-- The hidden rows over their scales. -/
def hq : FVec Ideal S128x1536 .f32 := k0_pay88 (x2s i) (x2c i) i.wi0 i.wis0 i.wi1 i.wis1
/-- The activation after the attention branch as stored. -/
def amidOut : FVec Ideal S1x128x768 .f32 := k0_pay78 (k0_pay76 i.s i.wg0) i.bg0 i.ogs i.og i.wo i.wos i.a
/-- The adaptive norm's codes as stored. -/
def x2cOut : FVec Ideal S1x128x768 .fp8e4m3 := k0_pay84 (x2c i)
/-- The adaptive norm's scales as stored, a row. -/
def x2sOut : FVec Ideal S1x1x128 .f32 := k0_pay85 (x2s i)
/-- The hidden codes as stored. -/
def hcOut : FVec Ideal S1x128x1536 .fp8e4m3 := k0_pay90 (hq i) (Scalar.ofBits .f32 0xC3E00000#32)
/-- The hidden scales as stored, a row. -/
def hsOut : FVec Ideal S1x1x128 .f32 := k0_pay91 (hs i)
/-- The result as stored; `back` is the activation after the attention branch, loaded again. -/
def yOut (back : FVec Ideal S1x128x768 .f32) : FVec Ideal S1x128x768 .bf16 :=
  k0_pay1 (k0_pay92 (k0_pay74 i.s) (hs i) (hq i) (Scalar.ofBits .f32 0xC3E00000#32) i.wu i.wus i.wg1 i.bg1 back)

end Values

variable {i : Loads 128} {W : Wts} {x : Row} {r : Fin 128} (h : Reads i W x r)
include h

/-- At row `r`, the activation after the attention branch is its token's. -/
theorem amid_at (d : Fin 768) : amid i (ix2 r d) = W.amid x d := by
  pointwise [amid, k0_pay77, k0_pay76, k0_pay74]
  simp only [h.s, h.wg0, h.bg0, h.ogs, h.og, h.wo, h.wos, h.a]
  rfl

/-- At row `r`, the gained conditioning row is its token's. -/
theorem sn_at (c : Fin 384) : sn i (ix2 r c) = W.sn x c := by
  pointwise [sn, k0_pay75, k0_pay74]
  simp only [h.s, h.gain]
  rfl

/-- At row `r`, the second adaptive norm is its token's. -/
theorem x2_at (d : Fin 768) : x2 i (ix2 r d) = W.x2 x d := by
  pointwise [x2, k0_pay81, k0_pay80, k0_pay79]
  simp only [amid_at h, sn_at h, h.wa0, h.wa1, h.ba]
  rfl

/-- At row `r`, the adaptive norm's scale is its token's. -/
theorem x2s_at : x2s i (ix2 r 0) = W.x2s x :=
  (pay82_at _ _ r _ _ _).trans (congrArg qscale (funext (x2_at h)))

/-- At row `r`, the adaptive norm's codes are its token's. -/
theorem x2c_at (d : Fin 768) : x2c i (ix2 r d) = W.x2c x d :=
  (pay83_at _ _ r _ _ _ d).trans (congrArg (fun v => qcode v d) (funext (x2_at h)))

/-- At row `r`, the hidden row is its token's. -/
theorem hid_at (f : Fin 1536) : hid i (ix2 r f) = W.hid x f := by
  refine (pay86_at _ _ _ _ _ _ r f).trans ?_
  simp only [x2s_at h, x2c_at h, h.wi0, h.wi1, h.wis0, h.wis1, Wts.hid, Wts.gu]

/-- At row `r`, the hidden scale is its token's. -/
theorem hs_at : hs i (ix2 r 0) = W.hs x :=
  (pay87_at _ _ _ _ _ _ r).trans (congrArg qscale (funext (hid_at h)))

/-- At row `r`, the hidden codes are its token's. -/
theorem hc_at (f : Fin 1536) : k0_pay89 (hq i) (Scalar.ofBits .f32 0xC3E00000#32) (ix2 r f) = W.hc x f :=
  (pay88_at _ _ _ _ _ _ r f).trans (congrArg (fun v => qcode v f) (funext (hid_at h)))

/-- Row `r` of the stored activation after the attention branch. -/
theorem amidOut_at (d : Fin 768) : amidOut i (ix3 0 r d) = W.amid x d := by
  rw [← amid_at h]
  pointwise [amidOut, k0_pay78]
  rfl

/-- Row `r` of the stored codes of the adaptive norm. -/
theorem x2cOut_at (d : Fin 768) : x2cOut i (ix3 0 r d) = W.x2c x d := by
  rw [← x2c_at h]
  pointwise [x2cOut, k0_pay84]

/-- Entry `r` of the stored scales of the adaptive norm. -/
theorem x2sOut_at : x2sOut i (ix3 0 0 r) = W.x2s x := by
  rw [← x2s_at h]
  pointwise [x2sOut, k0_pay85]

/-- Row `r` of the stored hidden codes. -/
theorem hcOut_at (f : Fin 1536) : hcOut i (ix3 0 r f) = W.hc x f := by
  rw [← hc_at h]
  pointwise [hcOut, k0_pay90]

/-- Entry `r` of the stored hidden scales. -/
theorem hsOut_at : hsOut i (ix3 0 0 r) = W.hs x := by
  rw [← hs_at h]
  pointwise [hsOut, k0_pay91]

/-- Row `r` of the stored result. -/
theorem yOut_at (back : FVec Ideal S1x128x768 .f32) (hb : ∀ d, back (ix3 0 r d) = W.amid x d) (d : Fin 768) :
    yOut i back (ix3 0 r d) = W.y x d := by
  have e : yOut i back (ix3 0 r d) = k0_pay92 (k0_pay74 i.s) (hs i) (hq i) (Scalar.ofBits .f32 0xC3E00000#32) i.wu i.wus i.wg1
      i.bg1 back (ix2 r d) := by
    pointwise [yOut, k0_pay1]
  have hs2 : ∀ c, k0_pay74 (F := Ideal) i.s (ix2 r c) = x.s c := fun c => by pointwise [k0_pay74]; exact h.s c
  rw [e, pay92_at]
  simp only [hc_at h, hs_at h, hs2, h.wu, h.wus, h.wg1, h.bg1, hb, Wts.y, Wts.gate]

end Cert.Tail.C128
-- ==== Proof.Final.lean ====
module

public import proofs.«01_k».proof.Proof.Pieces
public import proofs.«01_k».proof.Proof.Chunks
public import proofs.«01_k».proof.Proof.Chunk128
public import proofs.«01_k».proof.Proof.Gen.KernelIdeal.Value

@[expose] public section
set_option maxRecDepth 16384
set_option maxHeartbeats 1000000
noncomputable section
namespace Cert.Tail
open Idealize.ShloMosaic Idealize.ShloMosaic.TcCoe Idealize.SL.Sem Cert.KernelIdeal Cert.KernelIdeal.Gen
variable (m : (ℓ : Loc nD τ sig) → Buf (Elt Ideal) ℓ) (c : Dev nD)

/-! The arrays the tail kernel leaves after the attention branch and the adaptive norm, each as the row mathematics of `Spec`. -/

/-- Window 16 ends holding the activation after the attention branch. -/
theorem final16 : (dats m 0 c).arrAt 16 (cfgs 0).N = amidArr (kwts m c) (krow m c) := by
  refine (dats m 0 c).arrAt_eq_of_covers 16 _ (by decide +kernel) fun t hf y => ?_
  blk_simp
  rw [after0_16]; unfold Gen.outsAt0
  frame_out
  have e : ((View.whole main_v10_1).slice (win0_16.rect t)).emb y = ix3 (smp t) (y 1) (y 2) := by
    blk_ext [idx t, smp]
  rw [e]
  refine canon_rows (e := .f32) 768 (fun n d => (kwts m c).amid (krow m c (smp t) n) d) _ _ _ _ _ _ _ _ ?_ ?_ ?_ ?_ y
  · intro r d
    have h := C128.amidOut_at (loads_reads m c t 128 768 (by omega) r) d
    simp only [C128.amidOut, loads] at h
    exact h
  · intro r d
    have h := C256.amidOut_at (loads_reads m c t 256 512 (by omega) r) d
    simp only [C256.amidOut, C256.g0, loads] at h
    simp only [C256.g0_2, C256.amidOut_2]
    exact h
  · intro r d
    have h := C256.amidOut_at (loads_reads m c t 256 256 (by omega) r) d
    simp only [C256.amidOut, C256.g0, loads] at h
    simp only [C256.g0_1, C256.amidOut_1]
    exact h
  · intro r d
    have h := C256.amidOut_at (loads_reads m c t 256 0 (by omega) r) d
    simp only [C256.amidOut, C256.g0, loads] at h
    exact h

/-- Window 17 ends holding the adaptive norm's codes. -/
theorem final17 : (dats m 0 c).arrAt 17 (cfgs 0).N = x2cArr (kwts m c) (krow m c) := by
  refine (dats m 0 c).arrAt_eq_of_covers 17 _ (by decide +kernel) fun t hf y => ?_
  blk_simp
  rw [after0_17]; unfold Gen.outsAt0
  frame_out
  have e : ((View.whole main_v10_2).slice (win0_17.rect t)).emb y = ix3 (smp t) (y 1) (y 2) := by
    blk_ext [idx t, smp]
  rw [e]
  refine canon_rows (e := .fp8e4m3) 768 (fun n d => (kwts m c).x2c (krow m c (smp t) n) d) _ _ _ _ _ _ _ _ ?_ ?_ ?_ ?_ y
  · intro r d
    have h := C128.x2cOut_at (loads_reads m c t 128 768 (by omega) r) d
    simp only [C128.x2cOut, C128.sn, C128.amid, loads] at h
    exact h
  · intro r d
    have h := C256.x2cOut_at (loads_reads m c t 256 512 (by omega) r) d
    simp only [C256.x2cOut, C256.g0, C256.sn, C256.amid, loads] at h
    simp only [C256.g0_2, C256.sn_2, C256.amid_2, C256.x2cOut_2]
    exact h
  · intro r d
    have h := C256.x2cOut_at (loads_reads m c t 256 256 (by omega) r) d
    simp only [C256.x2cOut, C256.g0, C256.sn, C256.amid, loads] at h
    simp only [C256.g0_1, C256.sn_1, C256.amid_1, C256.x2cOut_1, C256.gate_1]
    exact h
  · intro r d
    have h := C256.x2cOut_at (loads_reads m c t 256 0 (by omega) r) d
    simp only [C256.x2cOut, C256.g0, C256.sn, C256.amid, loads] at h
    exact h

/-- Window 18 ends holding the adaptive norm's scales. -/
theorem final18 : (dats m 0 c).arrAt 18 (cfgs 0).N = x2sArr (kwts m c) (krow m c) := by
  refine (dats m 0 c).arrAt_eq_of_covers 18 _ (by decide +kernel) fun t hf y => ?_
  blk_simp
  rw [after0_18]; unfold Gen.outsAt0
  frame_out
  have e : ((View.whole main_v10_3).slice (win0_18.rect t)).emb y = ix3 (smp t) (y 1) (y 2) := by
    blk_ext [idx t, smp]
  rw [e]
  refine canon_lanes (e := .f32) (fun n => (kwts m c).x2s (krow m c (smp t) n)) _ _ _ _ _ _ _ _ ?_ ?_ ?_ ?_ y
  · intro r
    have h := C128.x2sOut_at (loads_reads m c t 128 768 (by omega) r)
    simp only [C128.x2sOut, C128.sn, C128.amid, C128.x2s, loads] at h
    exact h
  · intro r
    have h := C256.x2sOut_at (loads_reads m c t 256 512 (by omega) r)
    simp only [C256.x2sOut, C256.g0, C256.sn, C256.amid, loads] at h
    simp only [C256.g0_2, C256.sn_2, C256.amid_2, C256.x2s_2, C256.x2sOut_2]
    exact h
  · intro r
    have h := C256.x2sOut_at (loads_reads m c t 256 256 (by omega) r)
    simp only [C256.x2sOut, C256.g0, C256.sn, C256.amid, loads] at h
    simp only [C256.g0_1, C256.sn_1, C256.amid_1, C256.x2s_1, C256.x2sOut_1, C256.gate_1]
    exact h
  · intro r
    have h := C256.x2sOut_at (loads_reads m c t 256 0 (by omega) r)
    simp only [C256.x2sOut, C256.g0, C256.sn, C256.amid, loads] at h
    exact h

end Cert.Tail
-- ==== Proof.FinalFF.lean ====
module

public import proofs.«01_k».proof.Proof.Pieces
public import proofs.«01_k».proof.Proof.Chunks
public import proofs.«01_k».proof.Proof.Chunk128
public import proofs.«01_k».proof.Proof.Gen.KernelIdeal.Value

@[expose] public section
set_option maxRecDepth 16384
set_option maxHeartbeats 1000000
noncomputable section
namespace Cert.Tail
open Idealize.ShloMosaic Idealize.ShloMosaic.TcCoe Idealize.SL.Sem Cert.KernelIdeal Cert.KernelIdeal.Gen
variable (m : (ℓ : Loc nD τ sig) → Buf (Elt Ideal) ℓ) (c : Dev nD)

/-! The arrays the tail kernel leaves after the feed-forward, each as the row mathematics of `Spec`. -/

/-- Window 15 ends holding the result. -/
theorem final15 : (dats m 0 c).arrAt 15 (cfgs 0).N = yArr (kwts m c) (krow m c) := by
  refine (dats m 0 c).arrAt_eq_of_covers 15 _ (by decide +kernel) fun t hf y => ?_
  blk_simp
  rw [after0_15]; unfold Gen.outsAt0
  frame_out
  simp only [View.readCov_cons_toLoadRect]
  have e : ((View.whole main_v10_0).slice (win0_15.rect t)).emb y = ix3 (smp t) (y 1) (y 2) := by
    blk_ext [idx t, smp]
  rw [e]
  refine canon_rows (e := .bf16) 768 (fun n d => (kwts m c).y (krow m c (smp t) n) d) _ _ _ _ _ _ _ _ ?_ ?_ ?_ ?_ y
  · intro r d
    have h := C128.yOut_at (loads_reads m c t 128 768 (by omega) r) _ (C128.amidOut_at (loads_reads m c t 128 768 (by omega) r)) d
    simp only [C128.yOut, C128.sn, C128.amid, C128.amidOut, C128.x2s, C128.x2c, C128.hs, C128.hq, loads] at h
    exact h
  · intro r d
    have h := C256.yOut_at (loads_reads m c t 256 512 (by omega) r) _ (C256.amidOut_at (loads_reads m c t 256 512 (by omega) r)) d
    simp only [C256.yOut, C256.g0, C256.sn, C256.amid, C256.amidOut, C256.x2s, C256.x2c, C256.hs, C256.hq, loads] at h
    simp only [C256.g0_2, C256.sn_2, C256.amid_2, C256.amidOut_2, C256.x2s_2, C256.x2c_2, C256.yOut_2]
    exact h
  · intro r d
    have h := C256.yOut_at (loads_reads m c t 256 256 (by omega) r) _ (C256.amidOut_at (loads_reads m c t 256 256 (by omega) r)) d
    simp only [C256.yOut, C256.g0, C256.sn, C256.amid, C256.amidOut, C256.x2s, C256.x2c, C256.hs, C256.hq, loads] at h
    simp only [C256.g0_1, C256.sn_1, C256.amid_1, C256.amidOut_1, C256.x2s_1, C256.x2c_1, C256.hs_1, C256.yOut_1, C256.gate_1]
    exact h
  · intro r d
    have h := C256.yOut_at (loads_reads m c t 256 0 (by omega) r) _ (C256.amidOut_at (loads_reads m c t 256 0 (by omega) r)) d
    simp only [C256.yOut, C256.g0, C256.sn, C256.amid, C256.amidOut, C256.x2s, C256.x2c, C256.hs, C256.hq, loads] at h
    exact h

/-- Window 19 ends holding the hidden codes. -/
theorem final19 : (dats m 0 c).arrAt 19 (cfgs 0).N = hcArr (kwts m c) (krow m c) := by
  refine (dats m 0 c).arrAt_eq_of_covers 19 _ (by decide +kernel) fun t hf y => ?_
  blk_simp
  rw [after0_19]; unfold Gen.outsAt0
  frame_out
  have e : ((View.whole main_v10_4).slice (win0_19.rect t)).emb y = ix3 (smp t) (y 1) (y 2) := by
    blk_ext [idx t, smp]
  rw [e]
  refine canon_rows (e := .fp8e4m3) 1536 (fun n d => (kwts m c).hc (krow m c (smp t) n) d) _ _ _ _ _ _ _ _ ?_ ?_ ?_ ?_ y
  · intro r d
    have h := C128.hcOut_at (loads_reads m c t 128 768 (by omega) r) d
    simp only [C128.hcOut, C128.sn, C128.amid, C128.x2s, C128.x2c, C128.hq, loads] at h
    exact h
  · intro r d
    have h := C256.hcOut_at (loads_reads m c t 256 512 (by omega) r) d
    simp only [C256.hcOut, C256.g0, C256.sn, C256.amid, C256.x2s, C256.x2c, C256.hq, loads] at h
    simp only [C256.g0_2, C256.sn_2, C256.amid_2, C256.x2s_2, C256.x2c_2, C256.hcOut_2]
    exact h
  · intro r d
    have h := C256.hcOut_at (loads_reads m c t 256 256 (by omega) r) d
    simp only [C256.hcOut, C256.g0, C256.sn, C256.amid, C256.x2s, C256.x2c, C256.hq, loads] at h
    simp only [C256.g0_1, C256.sn_1, C256.amid_1, C256.x2s_1, C256.x2c_1, C256.hcOut_1, C256.gate_1]
    exact h
  · intro r d
    have h := C256.hcOut_at (loads_reads m c t 256 0 (by omega) r) d
    simp only [C256.hcOut, C256.g0, C256.sn, C256.amid, C256.x2s, C256.x2c, C256.hq, loads] at h
    exact h

/-- Window 20 ends holding the hidden scales. -/
theorem final20 : (dats m 0 c).arrAt 20 (cfgs 0).N = hsArr (kwts m c) (krow m c) := by
  refine (dats m 0 c).arrAt_eq_of_covers 20 _ (by decide +kernel) fun t hf y => ?_
  blk_simp
  rw [after0_20]; unfold Gen.outsAt0
  frame_out
  have e : ((View.whole main_v10_5).slice (win0_20.rect t)).emb y = ix3 (smp t) (y 1) (y 2) := by
    blk_ext [idx t, smp]
  rw [e]
  refine canon_lanes (e := .f32) (fun n => (kwts m c).hs (krow m c (smp t) n)) _ _ _ _ _ _ _ _ ?_ ?_ ?_ ?_ y
  · intro r
    have h := C128.hsOut_at (loads_reads m c t 128 768 (by omega) r)
    simp only [C128.hsOut, C128.sn, C128.amid, C128.x2s, C128.x2c, C128.hs, loads] at h
    exact h
  · intro r
    have h := C256.hsOut_at (loads_reads m c t 256 512 (by omega) r)
    simp only [C256.hsOut, C256.g0, C256.sn, C256.amid, C256.x2s, C256.x2c, C256.hs, loads] at h
    simp only [C256.g0_2, C256.sn_2, C256.amid_2, C256.x2s_2, C256.x2c_2, C256.hsOut_2]
    exact h
  · intro r
    have h := C256.hsOut_at (loads_reads m c t 256 256 (by omega) r)
    simp only [C256.hsOut, C256.g0, C256.sn, C256.amid, C256.x2s, C256.x2c, C256.hs, loads] at h
    simp only [C256.g0_1, C256.sn_1, C256.amid_1, C256.x2s_1, C256.x2c_1, C256.hs_1, C256.hsOut_1, C256.gate_1]
    exact h
  · intro r
    have h := C256.hsOut_at (loads_reads m c t 256 0 (by omega) r)
    simp only [C256.hsOut, C256.g0, C256.sn, C256.amid, C256.x2s, C256.x2c, C256.hs, loads] at h
    exact h

end Cert.Tail
-- ==== Proof.RefRows.lean ====
module

public import proofs.«01_k».proof.Proof.Spec
public import proofs.«01_k».proof.Proof.Gen.ReferenceIdeal.Skeleton

/-! The reference's values, read at sample `b` and token `n`, from whatever their inputs hold. -/

@[expose] public section

set_option maxRecDepth 16384

noncomputable section

namespace Cert.Tail.Ref

open Idealize.ShloMosaic Idealize.ShloMosaic.TcCoe Idealize.SL.Sem Cert.ReferenceIdeal Cert.ReferenceIdeal.Gen

/-- An absolute value, at an index of any shape. -/
theorem abs_at {s : Shape} (u : FVec Ideal s .f32) (i : s.Idx) :
    absf u i = FloatOps.absf (F := Ideal) (φ := FTy.f32) (u i) := rfl

variable (b : Fin 12) (n : Fin 896)

/-- The normalised conditioning row. -/
theorem pay6_at (s : FVec Ideal S12x896x384 .bf16) (c : Fin 384) :
    k0_pay6 (F := Ideal) s (ix3 b n c) = lnorm (Ideal.ofBits FTy.f32 1136656384#32) (fun c => s (ix3 b n c)) c := by
  pointwise [k0_pay6]
  simp only [lnorm]

/-- The two sigmoid gates. -/
theorem pay7_at (s : FVec Ideal S12x896x384 .bf16) (w : FVec Ideal S384x2x768 .bf16) (bias : FVec Ideal S2x768 .f32) (j : Fin 2)
    (d : Fin 768) : k0_pay7 (F := Ideal) s w bias (ix4 b n j d)
      = Ideal.logistic ((∑ c, s (ix3 b n c) * w (ix3 c j d)) + bias (ix2 j d)) := by
  pointwise [k0_pay7]

/-- The out projection: the sum over heads and their channels is the sum over both read as one axis. -/
theorem pay9_at (og : FVec Ideal S12x896x16x48 .fp8e4m3) (w : FVec Ideal S16x48x768 .fp8e4m3) (d : Fin 768) :
    k0_pay9 (F := Ideal) og w (ix3 b n d) = ∑ k : Fin 768, og (ix4 b n ⟨k / 48, by omega⟩ ⟨k % 48, by omega⟩)
      * w (ix3 ⟨k / 48, by omega⟩ ⟨k % 48, by omega⟩ d) := by
  pointwise [k0_pay9]
  refine Finset.sum_comm.trans ?_
  refine Eq.trans ?_ (Fin.sum_univ_tiles 16 48 rfl _).symm
  refine Finset.sum_congr rfl fun h _ => Finset.sum_congr rfl fun e _ => ?_
  have hh : (⟨(h.val * 48 + e.val) / 48, by omega⟩ : Fin 16) = h := Fin.ext (by show (h.val * 48 + e.val) / 48 = h.val; omega)
  have he : (⟨(h.val * 48 + e.val) % 48, by omega⟩ : Fin 48) = e := Fin.ext (by show (h.val * 48 + e.val) % 48 = e.val; omega)
  simp only [hh, he]

/-- The attention codes' scales, spread over the channels. -/
theorem pay10_at (s : FVec Ideal S12x896 .f32) (d : Fin 768) : k0_pay10 (F := Ideal) s (ix3 b n d) = s (ix2 b n) := by
  pointwise [k0_pay10]

section Attn
variable (g : FVec Ideal S12x896x2x768 .f32) (a p o : FVec Ideal S12x896x768 .f32) (wos : FVec Ideal S768 .f32)

/-- The activation after the attention branch. -/
theorem pay11_at (d : Fin 768) : k0_pay11 (F := Ideal) g a p o wos (ix3 b n d)
    = a (ix3 b n d) + g (ix4 b n 0 d) * (p (ix3 b n d) * o (ix3 b n d) * wos (ix1 d)) := by
  pointwise [k0_pay11]

/-- The second adaptive norm. -/
theorem pay12_at (l : FVec Ideal S12x896x384 .f32) (gain : FVec Ideal S384 .f32) (wa : FVec Ideal S384x2x768 .bf16)
    (ba : FVec Ideal S768 .f32) (d : Fin 768) : k0_pay12 (F := Ideal) l g a p o wos gain wa ba (ix3 b n d)
      = lnorm (Ideal.ofBits FTy.f32 1145044992#32) (fun d => k0_pay11 (F := Ideal) g a p o wos (ix3 b n d)) d
          * Ideal.logistic ((∑ c, (l (ix3 b n c) * gain (ix1 c)) * wa (ix3 c 0 d)) + ba (ix1 d))
        + ∑ c, (l (ix3 b n c) * gain (ix1 c)) * wa (ix3 c 1 d) := by
  pointwise [k0_pay12]
  simp only [lnorm]

end Attn

section Quant
variable (v : FVec Ideal S12x896x768 .f32) (u : FVec Ideal S12x896x1536 .f32) (z : FVec Ideal S12x896x1 .f32)

/-- A row over its scale. -/
theorem quot_at (d : Fin 768) : divf v (broadcastTo S12x896x768 z broadcasts_S12x896x1_S12x896x768) (ix3 b n d)
    = Ideal.div (v (ix3 b n d)) (z (ix3 b n 0)) := by
  pointwise []

/-- A hidden row over its scale. -/
theorem quot2_at (f : Fin 1536) : divf u (broadcastTo S12x896x1536 z broadcasts_S12x896x1_S12x896x1536) (ix3 b n f)
    = Ideal.div (u (ix3 b n f)) (z (ix3 b n 0)) := by
  pointwise []

/-- The scale of a row of the adaptive norm. -/
theorem pay13_at : k0_pay13 (F := Ideal) v (ix3 b n 0) = qscale fun d => v (ix3 b n d) := by
  refine (scaleOf_at _ _).trans (congrArg scaleOf ?_)
  pointwise []; rfl

/-- The codes of a row of the adaptive norm. -/
theorem pay14_at (d : Fin 768) : k0_pay14 (F := Ideal) v (ix3 b n d) = qcode (fun d => v (ix3 b n d)) d := by
  rw [qcode, ← pay13_at]
  refine (clip_cast_at _ _ _).trans ?_
  exact congrArg clip (quot_at b n v (k0_pay13 (F := Ideal) v) d)

/-- The scale again, without its unit axis. -/
theorem pay15_at : k0_pay15 (F := Ideal) v (ix2 b n) = qscale fun d => v (ix3 b n d) := by
  rw [← pay13_at]
  pointwise [k0_pay15]

/-- The scale again, in the stored layout. -/
theorem pay16_at : k0_pay16 (F := Ideal) v (ix3 b 0 n) = qscale fun d => v (ix3 b n d) := by
  rw [← pay15_at]
  pointwise [k0_pay16]

/-- The hidden scale of a row's largest absolute value. -/
theorem pay1_at : k0_pay1 (F := Ideal) z (ix3 b n 0) = scaleOf (z (ix3 b n 0)) := scaleOf_at _ _

/-- The hidden codes, from the row and its largest absolute value. -/
theorem pay2_at (f : Fin 1536) : k0_pay2 (F := Ideal) u z (ix3 b n f) = clip (Ideal.div (u (ix3 b n f)) (scaleOf (z (ix3 b n 0)))) := by
  rw [← pay1_at]
  refine (clip_cast_at _ _ _).trans ?_
  exact congrArg clip (quot2_at b n u (k0_pay1 (F := Ideal) z) f)

/-- The hidden scale again, without its unit axis. -/
theorem pay3_at : k0_pay3 (F := Ideal) z (ix2 b n) = scaleOf (z (ix3 b n 0)) := by
  rw [← pay1_at]
  pointwise [k0_pay3]

/-- The hidden scale again, in the stored layout. -/
theorem pay4_at : k0_pay4 (F := Ideal) z (ix3 b 0 n) = scaleOf (z (ix3 b n 0)) := by
  rw [← pay3_at]
  pointwise [k0_pay4]

/-- A sum or maximum over the channels, with the reduced axis put back. -/
theorem keep_at (p : FVec Ideal S12x896 .f32) : shapeCast S12x896x1 p shapeCasts_S12x896_S12x896x1 (ix3 b n 0) = p (ix2 b n) := by
  pointwise []

/-- The largest of a hidden row. -/
theorem max_at : multiReduction .maximumf [2] S12x896 u 0xFF800000#32 reduces_S12x896x1536_S12x896 (.inl rfl) rfl (ix2 b n)
    = Finset.fold max (Ideal.ofBits FTy.f32 4286578688#32) (fun f => u (ix3 b n f)) Finset.univ := by
  pointwise []

section Hidden
variable (q : FVec Ideal S12x896x768 .fp8e4m3) (sc : FVec Ideal S12x896 .f32) (w : FVec Ideal S768x2x1536 .fp8e4m3)
  (ws : FVec Ideal S2x1536 .f32) (p : FVec Ideal S12x896x2x1536 .f32)

/-- The feed-forward's first product, both halves at once. -/
theorem gu_at (j : Fin 2) (f : Fin 1536) :
    mulf (mulf (matmul dot_S12x896x768_S768x2x1536_S12x896x2x1536_2_0_01_12_n_n none q w
        (constant S12x896x2x1536 FTy.f32 0x00000000#32))
      (broadcastTo S12x896x2x1536 (shapeCast S12x896x1x1 sc shapeCasts_S12x896_S12x896x1x1)
        broadcasts_S12x896x1x1_S12x896x2x1536))
      (broadcastTo S12x896x2x1536 (shapeCast S1x1x2x1536 ws shapeCasts_S2x1536_S1x1x2x1536)
        broadcasts_S1x1x2x1536_S12x896x2x1536) (ix4 b n j f)
    = proj (fun k => q (ix3 b n k)) (fun k f => w (ix3 k j f)) (sc (ix2 b n)) (fun f => ws (ix2 j f)) f := by
  pointwise []
  simp only [proj]

/-- The first half. -/
theorem lo_at (f : Fin 1536) : shapeCast S12x896x1536
      (extractStridedSlice S12x896x1x1536 ![0, 0, 0, 0] p slices_S12x896x2x1536_o0_0_0_0_S12x896x1x1536)
      shapeCasts_S12x896x1x1536_S12x896x1536 (ix3 b n f) = p (ix4 b n 0 f) := by
  pointwise []

/-- The second half. -/
theorem hi_at (f : Fin 1536) : shapeCast S12x896x1536
      (extractStridedSlice S12x896x1x1536 ![0, 0, 1, 0] p slices_S12x896x2x1536_o0_0_1_0_S12x896x1x1536)
      shapeCasts_S12x896x1x1536_S12x896x1536 (ix3 b n f) = p (ix4 b n 1 f) := by
  pointwise []

/-- The hidden row of the two halves. -/
theorem silu_at (x z : FVec Ideal S12x896x1536 .f32) (f : Fin 1536) :
    mulf (mulf x (logistic x)) z (ix3 b n f) = x (ix3 b n f) * Ideal.logistic (x (ix3 b n f)) * z (ix3 b n f) := by
  pointwise []

/-- The hidden row, from the adaptive norm's codes and scales. -/
theorem pay17_at (f : Fin 1536) :
    k0_pay17 (F := Ideal) v w ws (ix3 b n f)
    = proj (fun k => k0_pay14 (F := Ideal) v (ix3 b n k)) (fun k f => w (ix3 k 0 f)) (k0_pay15 (F := Ideal) v (ix2 b n)) (fun f => ws (ix2 0 f)) f
      * Ideal.logistic (proj (fun k => k0_pay14 (F := Ideal) v (ix3 b n k)) (fun k f => w (ix3 k 0 f)) (k0_pay15 (F := Ideal) v (ix2 b n)) (fun f => ws (ix2 0 f)) f)
      * proj (fun k => k0_pay14 (F := Ideal) v (ix3 b n k)) (fun k f => w (ix3 k 1 f)) (k0_pay15 (F := Ideal) v (ix2 b n)) (fun f => ws (ix2 1 f)) f := by
  unfold k0_pay17
  generalize k0_pay14 (F := Ideal) v = q
  generalize k0_pay15 (F := Ideal) v = sc
  rw [silu_at, lo_at, hi_at, gu_at, gu_at]

/-- The largest absolute value of the hidden row. -/
theorem pay18_at : k0_pay18 (F := Ideal) v w ws (ix3 b n 0) = amax fun f => k0_pay17 (F := Ideal) v w ws (ix3 b n f) := by
  unfold k0_pay18
  generalize k0_pay17 (F := Ideal) v w ws = u
  rw [keep_at, max_at]
  unfold amax
  exact congrArg (fun g => Finset.fold max _ g Finset.univ) (funext fun f => abs_at u (ix3 b n f))

end Hidden

/-- The result. -/
theorem pay5_at (g : FVec Ideal S12x896x2x768 .f32) (w : FVec Ideal S1536x768 .fp8e4m3) (ws : FVec Ideal S768 .f32) (d : Fin 768) :
    k0_pay5 (F := Ideal) g v u z w ws (ix3 b n d) = v (ix3 b n d) + g (ix4 b n 1 d)
      * proj (fun f => k0_pay2 (F := Ideal) u z (ix3 b n f)) (fun f d => w (ix2 f d)) (k0_pay3 (F := Ideal) z (ix2 b n)) (fun d => ws (ix1 d)) d := by
  pointwise [k0_pay5]
  simp only [proj]

end Quant

/-! The same values as the functions of a token, once the inputs are known to hold the token and the weights. -/

section Token
variable {W : Wts} {x : Row} {b : Fin 12} {n : Fin 896}

/-- The activation after the attention branch is the token's. -/
theorem amid_of {g : FVec Ideal S12x896x2x768 .f32} {a p o : FVec Ideal S12x896x768 .f32} {wos : FVec Ideal S768 .f32}
    (hg : ∀ j d, g (ix4 b n j d) = W.gate x j d) (ha : ∀ d, a (ix3 b n d) = x.a d)
    (hp : ∀ d, p (ix3 b n d) = ∑ k, x.og k * W.wo k d) (ho : ∀ d, o (ix3 b n d) = x.ogs) (hwos : ∀ d, wos (ix1 d) = W.wos d)
    (d : Fin 768) : k0_pay11 (F := Ideal) g a p o wos (ix3 b n d) = W.amid x d := by
  rw [pay11_at, hg, ha, hp, ho, hwos]; rfl

/-- The second adaptive norm is the token's. -/
theorem x2_of {l : FVec Ideal S12x896x384 .f32} {g : FVec Ideal S12x896x2x768 .f32} {a p o : FVec Ideal S12x896x768 .f32}
    {wos : FVec Ideal S768 .f32} {gain : FVec Ideal S384 .f32} {wa : FVec Ideal S384x2x768 .bf16} {ba : FVec Ideal S768 .f32}
    (hl : ∀ c, l (ix3 b n c) = lnorm (Ideal.ofBits FTy.f32 1136656384#32) x.s c)
    (hm : ∀ d, k0_pay11 (F := Ideal) g a p o wos (ix3 b n d) = W.amid x d) (hgain : ∀ c, gain (ix1 c) = W.gain c)
    (hwa : ∀ c j d, wa (ix3 c j d) = W.wa j c d) (hba : ∀ d, ba (ix1 d) = W.ba d) (d : Fin 768) :
    k0_pay12 (F := Ideal) l g a p o wos gain wa ba (ix3 b n d) = W.x2 x d := by
  rw [pay12_at]; simp only [hl, hm, hgain, hwa, hba]; rfl

section
variable {v : FVec Ideal S12x896x768 .f32} (hv : ∀ d, v (ix3 b n d) = W.x2 x d)
include hv

/-- The adaptive norm's codes are the token's. -/
theorem x2c_of (d : Fin 768) : k0_pay14 (F := Ideal) v (ix3 b n d) = W.x2c x d := by
  rw [pay14_at, funext hv]; rfl

/-- The adaptive norm's scale is the token's. -/
theorem x2s_of : k0_pay15 (F := Ideal) v (ix2 b n) = W.x2s x := by
  rw [pay15_at, funext hv]; rfl

/-- The adaptive norm's scale as stored is the token's. -/
theorem x2sOut_of : k0_pay16 (F := Ideal) v (ix3 b 0 n) = W.x2s x := by
  rw [pay16_at, funext hv]; rfl

/-- The hidden row is the token's. -/
theorem hid_of {w : FVec Ideal S768x2x1536 .fp8e4m3} {ws : FVec Ideal S2x1536 .f32} (hw : ∀ k j f, w (ix3 k j f) = W.wi j k f)
    (hws : ∀ j f, ws (ix2 j f) = W.wis j f) (f : Fin 1536) : k0_pay17 (F := Ideal) v w ws (ix3 b n f) = W.hid x f := by
  rw [pay17_at, x2s_of hv]; simp only [x2c_of hv, hw, hws]; rfl

/-- The largest absolute value of the hidden row is the token's. -/
theorem hidMax_of {w : FVec Ideal S768x2x1536 .fp8e4m3} {ws : FVec Ideal S2x1536 .f32} (hw : ∀ k j f, w (ix3 k j f) = W.wi j k f)
    (hws : ∀ j f, ws (ix2 j f) = W.wis j f) : k0_pay18 (F := Ideal) v w ws (ix3 b n 0) = amax (W.hid x) := by
  rw [pay18_at, funext (hid_of hv hw hws)]

end

section
variable {u : FVec Ideal S12x896x1536 .f32} {z : FVec Ideal S12x896x1 .f32} (hu : ∀ f, u (ix3 b n f) = W.hid x f)
  (hz : z (ix3 b n 0) = amax (W.hid x))
include hz

/-- The hidden scale is the token's. -/
theorem hs_of : k0_pay3 (F := Ideal) z (ix2 b n) = W.hs x := by
  rw [pay3_at, hz]; rfl

/-- The hidden scale as stored is the token's. -/
theorem hsOut_of : k0_pay4 (F := Ideal) z (ix3 b 0 n) = W.hs x := by
  rw [pay4_at, hz]; rfl

include hu

/-- The hidden codes are the token's. -/
theorem hc_of (f : Fin 1536) : k0_pay2 (F := Ideal) u z (ix3 b n f) = W.hc x f := by
  rw [pay2_at, hu, hz]; rfl

/-- The result is the token's. -/
theorem y_of {g : FVec Ideal S12x896x2x768 .f32} {v : FVec Ideal S12x896x768 .f32} {w : FVec Ideal S1536x768 .fp8e4m3}
    {ws : FVec Ideal S768 .f32} (hg : ∀ j d, g (ix4 b n j d) = W.gate x j d) (hv : ∀ d, v (ix3 b n d) = W.amid x d)
    (hw : ∀ f d, w (ix2 f d) = W.wu f d) (hws : ∀ d, ws (ix1 d) = W.wus d) (d : Fin 768) :
    k0_pay5 (F := Ideal) g v u z w ws (ix3 b n d) = W.y x d := by
  rw [pay5_at, hg, hv, hs_of hz]; simp only [hc_of hu hz, hw, hws]; rfl

end

end Token

end Cert.Tail.Ref
-- ==== Proof.RefFinal.lean ====
module

public import proofs.«01_k».proof.Proof.Args
public import proofs.«01_k».proof.Proof.RefRows
public import proofs.«01_k».proof.Proof.Gen.ReferenceIdeal.Value

/-! What the reference leaves in its six arrays: the token's values at every sample and token. -/

@[expose] public section

set_option maxRecDepth 16384

noncomputable section

namespace Cert.Tail.Ref

open Idealize.ShloMosaic Idealize.ShloMosaic.TcCoe Idealize.SL.Sem Cert.ReferenceIdeal Cert.ReferenceIdeal.Gen
open Cert.ReferenceIdeal.Value

variable (a0 : Vec Ideal S12x896x16x48 .fp8e4m3) (a1 : Vec Ideal S12x896 .f32) (a2 : Vec Ideal S12x896x768 .bf16) (a3 : Vec Ideal S12x896x384 .bf16)
  (a4 : Vec Ideal S16x48x768 .fp8e4m3) (a5 : Vec Ideal S768 .f32) (a6 : Vec Ideal S384x2x768 .bf16) (a7 : Vec Ideal S2x768 .f32)
  (a8 : Vec Ideal S384 .f32) (a9 : Vec Ideal S384x2x768 .bf16) (a10 : Vec Ideal S768 .f32) (a11 : Vec Ideal S768x2x1536 .fp8e4m3)
  (a12 : Vec Ideal S2x1536 .f32) (a13 : Vec Ideal S1536x768 .fp8e4m3) (a14 : Vec Ideal S768 .f32)

/-! The reference's stages without their whole-array loads. -/

/-- The gates. -/
theorem stage19 : k0_pay19 (F := Ideal) a0 a1 a2 a3 a4 a5 a6 a7 a8 a9 a10 a11 a12 a13 a14 = k0_pay7 (F := Ideal) a3 a6 a7 := by
  unfold k0_pay19
  rw [View.ld_unit_zero (S := S12x896x384) hz3 _ a3, View.ld_unit_zero (S := S384x2x768) hz6 _ a6, View.ld_unit_zero (S := S2x768) hz7 _ a7]

/-- The incoming activation. -/
theorem stage20 : k0_pay20 (F := Ideal) a0 a1 a2 a3 a4 a5 a6 a7 a8 a9 a10 a11 a12 a13 a14 = k0_pay8 (F := Ideal) a2 := by
  unfold k0_pay20
  rw [View.ld_unit_zero (S := S12x896x768) hz2 _ a2]

/-- The out projection. -/
theorem stage21 : k0_pay21 (F := Ideal) a0 a1 a2 a3 a4 a5 a6 a7 a8 a9 a10 a11 a12 a13 a14 = k0_pay9 (F := Ideal) a0 a4 := by
  unfold k0_pay21
  rw [View.ld_unit_zero (S := S12x896x16x48) hz0 _ a0, View.ld_unit_zero (S := S16x48x768) hz4 _ a4]

/-- The attention codes' scales. -/
theorem stage22 : k0_pay22 (F := Ideal) a0 a1 a2 a3 a4 a5 a6 a7 a8 a9 a10 a11 a12 a13 a14 = k0_pay10 (F := Ideal) a1 := by
  unfold k0_pay22
  rw [View.ld_unit_zero (S := S12x896) hz1 _ a1]

/-- The second adaptive norm. -/
theorem stage23 : k0_pay23 (F := Ideal) a0 a1 a2 a3 a4 a5 a6 a7 a8 a9 a10 a11 a12 a13 a14 = k0_pay12 (F := Ideal) (k0_pay6 (F := Ideal) a3) (k0_pay19 (F := Ideal) a0 a1 a2 a3 a4 a5 a6 a7 a8 a9 a10 a11 a12 a13 a14) (k0_pay20 (F := Ideal) a0 a1 a2 a3 a4 a5 a6 a7 a8 a9 a10 a11 a12 a13 a14) (k0_pay21 (F := Ideal) a0 a1 a2 a3 a4 a5 a6 a7 a8 a9 a10 a11 a12 a13 a14) (k0_pay22 (F := Ideal) a0 a1 a2 a3 a4 a5 a6 a7 a8 a9 a10 a11 a12 a13 a14) a5 a8 a9 a10 := by
  unfold k0_pay23
  rw [View.ld_unit_zero (S := S12x896x384) hz3 _ a3, View.ld_unit_zero (S := S768) hz5 _ a5, View.ld_unit_zero (S := S384) hz8 _ a8, View.ld_unit_zero (S := S384x2x768) hz9 _ a9, View.ld_unit_zero (S := S768) hz10 _ a10]

/-- The hidden row. -/
theorem stage24 : k0_pay24 (F := Ideal) a0 a1 a2 a3 a4 a5 a6 a7 a8 a9 a10 a11 a12 a13 a14 = k0_pay17 (F := Ideal) (k0_pay23 (F := Ideal) a0 a1 a2 a3 a4 a5 a6 a7 a8 a9 a10 a11 a12 a13 a14) a11 a12 := by
  unfold k0_pay24
  rw [View.ld_unit_zero (S := S768x2x1536) hz11 _ a11, View.ld_unit_zero (S := S2x1536) hz12 _ a12]

/-- The largest absolute values of the hidden rows. -/
theorem stage25 : k0_pay25 (F := Ideal) a0 a1 a2 a3 a4 a5 a6 a7 a8 a9 a10 a11 a12 a13 a14 = k0_pay18 (F := Ideal) (k0_pay23 (F := Ideal) a0 a1 a2 a3 a4 a5 a6 a7 a8 a9 a10 a11 a12 a13 a14) a11 a12 := by
  unfold k0_pay25
  rw [View.ld_unit_zero (S := S768x2x1536) hz11 _ a11, View.ld_unit_zero (S := S2x1536) hz12 _ a12]

section
variable (b : Fin 12) (n : Fin 896)

/-- The gates. -/
theorem gate_at (j : Fin 2) (d : Fin 768) :
    k0_pay19 (F := Ideal) a0 a1 a2 a3 a4 a5 a6 a7 a8 a9 a10 a11 a12 a13 a14 (ix4 b n j d) = (wts a4 a5 a6 a7 a8 a9 a10 a11 a12 a13 a14).gate (row a0 a1 a2 a3 b n) j d := by
  rw [stage19]
  exact pay7_at b n a3 a6 a7 j d

/-- The activation after the attention branch. -/
theorem amid_at (d : Fin 768) :
    k0_pay11 (F := Ideal) (k0_pay19 (F := Ideal) a0 a1 a2 a3 a4 a5 a6 a7 a8 a9 a10 a11 a12 a13 a14) (k0_pay20 (F := Ideal) a0 a1 a2 a3 a4 a5 a6 a7 a8 a9 a10 a11 a12 a13 a14) (k0_pay21 (F := Ideal) a0 a1 a2 a3 a4 a5 a6 a7 a8 a9 a10 a11 a12 a13 a14) (k0_pay22 (F := Ideal) a0 a1 a2 a3 a4 a5 a6 a7 a8 a9 a10 a11 a12 a13 a14) a5 (ix3 b n d) = (wts a4 a5 a6 a7 a8 a9 a10 a11 a12 a13 a14).amid (row a0 a1 a2 a3 b n) d := by
  refine amid_of (gate_at a0 a1 a2 a3 a4 a5 a6 a7 a8 a9 a10 a11 a12 a13 a14 b n) (fun d => ?_) (fun d => ?_) (fun d => ?_) (fun _ => rfl) d
  · rw [stage20]; rfl
  · rw [stage21]; exact pay9_at b n a0 a4 d
  · rw [stage22]; exact pay10_at b n a1 d

/-- The second adaptive norm. -/
theorem x2_at (d : Fin 768) : k0_pay23 (F := Ideal) a0 a1 a2 a3 a4 a5 a6 a7 a8 a9 a10 a11 a12 a13 a14 (ix3 b n d) = (wts a4 a5 a6 a7 a8 a9 a10 a11 a12 a13 a14).x2 (row a0 a1 a2 a3 b n) d := by
  rw [stage23]
  exact x2_of (W := wts a4 a5 a6 a7 a8 a9 a10 a11 a12 a13 a14) (x := row a0 a1 a2 a3 b n) (fun c => pay6_at b n a3 c) (amid_at a0 a1 a2 a3 a4 a5 a6 a7 a8 a9 a10 a11 a12 a13 a14 b n) (fun _ => rfl) (fun _ _ _ => rfl) (fun _ => rfl) d

/-- The hidden row. -/
theorem hid_at (f : Fin 1536) : k0_pay24 (F := Ideal) a0 a1 a2 a3 a4 a5 a6 a7 a8 a9 a10 a11 a12 a13 a14 (ix3 b n f) = (wts a4 a5 a6 a7 a8 a9 a10 a11 a12 a13 a14).hid (row a0 a1 a2 a3 b n) f := by
  rw [stage24]
  exact hid_of (x2_at a0 a1 a2 a3 a4 a5 a6 a7 a8 a9 a10 a11 a12 a13 a14 b n) (fun _ _ _ => rfl) (fun _ _ => rfl) f

/-- The largest absolute value of the hidden row. -/
theorem hidMax_at : k0_pay25 (F := Ideal) a0 a1 a2 a3 a4 a5 a6 a7 a8 a9 a10 a11 a12 a13 a14 (ix3 b n 0) = amax ((wts a4 a5 a6 a7 a8 a9 a10 a11 a12 a13 a14).hid (row a0 a1 a2 a3 b n)) := by
  rw [stage25]
  exact hidMax_of (x2_at a0 a1 a2 a3 a4 a5 a6 a7 a8 a9 a10 a11 a12 a13 a14 b n) (fun _ _ _ => rfl) (fun _ _ => rfl)

end

/-- The result. -/
theorem final15 : G15 (F := Ideal) a0 a1 a2 a3 a4 a5 a6 a7 a8 a9 a10 a11 a12 a13 a14 = yArr (wts a4 a5 a6 a7 a8 a9 a10 a11 a12 a13 a14) (row a0 a1 a2 a3) := by
  funext i
  obtain ⟨b, n, d, rfl⟩ : ∃ b n d, i = ix3 b n d := ⟨_, _, _, eq_ix3 i⟩
  exact y_of (hid_at a0 a1 a2 a3 a4 a5 a6 a7 a8 a9 a10 a11 a12 a13 a14 b n) (hidMax_at a0 a1 a2 a3 a4 a5 a6 a7 a8 a9 a10 a11 a12 a13 a14 b n) (gate_at a0 a1 a2 a3 a4 a5 a6 a7 a8 a9 a10 a11 a12 a13 a14 b n) (amid_at a0 a1 a2 a3 a4 a5 a6 a7 a8 a9 a10 a11 a12 a13 a14 b n) (fun _ _ => rfl) (fun _ => rfl) d

/-- The activation after the attention branch. -/
theorem final16 : G16 (F := Ideal) a0 a1 a2 a3 a4 a5 a6 a7 a8 a9 a10 a11 a12 a13 a14 = amidArr (wts a4 a5 a6 a7 a8 a9 a10 a11 a12 a13 a14) (row a0 a1 a2 a3) := by
  funext i
  obtain ⟨b, n, d, rfl⟩ : ∃ b n d, i = ix3 b n d := ⟨_, _, _, eq_ix3 i⟩
  exact amid_at a0 a1 a2 a3 a4 a5 a6 a7 a8 a9 a10 a11 a12 a13 a14 b n d

/-- The adaptive norm's codes. -/
theorem final17 : G17 (F := Ideal) a0 a1 a2 a3 a4 a5 a6 a7 a8 a9 a10 a11 a12 a13 a14 = x2cArr (wts a4 a5 a6 a7 a8 a9 a10 a11 a12 a13 a14) (row a0 a1 a2 a3) := by
  funext i
  obtain ⟨b, n, d, rfl⟩ : ∃ b n d, i = ix3 b n d := ⟨_, _, _, eq_ix3 i⟩
  exact x2c_of (x2_at a0 a1 a2 a3 a4 a5 a6 a7 a8 a9 a10 a11 a12 a13 a14 b n) d

/-- The adaptive norm's scales. -/
theorem final18 : G18 (F := Ideal) a0 a1 a2 a3 a4 a5 a6 a7 a8 a9 a10 a11 a12 a13 a14 = x2sArr (wts a4 a5 a6 a7 a8 a9 a10 a11 a12 a13 a14) (row a0 a1 a2 a3) := by
  funext i
  obtain ⟨b, z, n, rfl⟩ : ∃ b z n, i = ix3 b z n := ⟨_, _, _, eq_ix3 i⟩
  obtain rfl : z = 0 := Subsingleton.elim _ _
  exact x2sOut_of (x2_at a0 a1 a2 a3 a4 a5 a6 a7 a8 a9 a10 a11 a12 a13 a14 b n)

/-- The hidden codes. -/
theorem final19 : G19 (F := Ideal) a0 a1 a2 a3 a4 a5 a6 a7 a8 a9 a10 a11 a12 a13 a14 = hcArr (wts a4 a5 a6 a7 a8 a9 a10 a11 a12 a13 a14) (row a0 a1 a2 a3) := by
  funext i
  obtain ⟨b, n, d, rfl⟩ : ∃ b n d, i = ix3 b n d := ⟨_, _, _, eq_ix3 i⟩
  exact hc_of (hid_at a0 a1 a2 a3 a4 a5 a6 a7 a8 a9 a10 a11 a12 a13 a14 b n) (hidMax_at a0 a1 a2 a3 a4 a5 a6 a7 a8 a9 a10 a11 a12 a13 a14 b n) d

/-- The hidden scales. -/
theorem final20 : G20 (F := Ideal) a0 a1 a2 a3 a4 a5 a6 a7 a8 a9 a10 a11 a12 a13 a14 = hsArr (wts a4 a5 a6 a7 a8 a9 a10 a11 a12 a13 a14) (row a0 a1 a2 a3) := by
  funext i
  obtain ⟨b, z, n, rfl⟩ : ∃ b z n, i = ix3 b z n := ⟨_, _, _, eq_ix3 i⟩
  obtain rfl : z = 0 := Subsingleton.elim _ _
  exact hsOut_of (hidMax_at a0 a1 a2 a3 a4 a5 a6 a7 a8 a9 a10 a11 a12 a13 a14 b n)

end Cert.Tail.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Final
public import proofs.«01_k».proof.Proof.FinalFF
public import proofs.«01_k».proof.Proof.RefFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

set_option maxHeartbeats 2000000 in
/-- The kernel's tail and the reference leave the same six arrays, at exact arithmetic on extended reals. -/
theorem algebraic : Cert.algebraic_KernelIdeal_ReferenceIdeal := by
  pair_intro
  · run_from Cert.KernelIdeal.Value.run_blocks m g
  · have hW : ∀ c : Dev Cert.KernelIdeal.nD, Cert.Tail.wts
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14)) = Cert.Tail.kwts m c := fun c => by
      obtain ⟨h0, h1, h2, h3, h4, h5, h6, h7, h8, h9, h10, h11, h12, h13, h14⟩ := hagree c
      rw [h4, h5, h6, h7, h8, h9, h10, h11, h12, h13, h14]; rfl
    have hR : ∀ c : Dev Cert.KernelIdeal.nD, Cert.Tail.row
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = Cert.Tail.krow m c := fun c => by
      obtain ⟨h0, h1, h2, h3, h4, h5, h6, h7, h8, h9, h10, h11, h12, h13, h14⟩ := hagree c
      rw [h0, h1, h2, h3]; rfl
    run_from Cert.ReferenceIdeal.Value.run_blocks m' g'
    · exact ((Cert.ReferenceIdeal.Value.final15 m' c).trans (Cert.Tail.Ref.final15 _ _ _ _ _ _ _ _ _ _ _ _ _ _ _)).trans
        ((congrArg₂ Cert.Tail.yArr (hW c) (hR c)).trans (Cert.Tail.final15 m c).symm)
    · exact ((Cert.ReferenceIdeal.Value.final16 m' c).trans (Cert.Tail.Ref.final16 _ _ _ _ _ _ _ _ _ _ _ _ _ _ _)).trans
        ((congrArg₂ Cert.Tail.amidArr (hW c) (hR c)).trans (Cert.Tail.final16 m c).symm)
    · exact ((Cert.ReferenceIdeal.Value.final17 m' c).trans (Cert.Tail.Ref.final17 _ _ _ _ _ _ _ _ _ _ _ _ _ _ _)).trans
        ((congrArg₂ Cert.Tail.x2cArr (hW c) (hR c)).trans (Cert.Tail.final17 m c).symm)
    · exact ((Cert.ReferenceIdeal.Value.final18 m' c).trans (Cert.Tail.Ref.final18 _ _ _ _ _ _ _ _ _ _ _ _ _ _ _)).trans
        ((congrArg₂ Cert.Tail.x2sArr (hW c) (hR c)).trans (Cert.Tail.final18 m c).symm)
    · exact ((Cert.ReferenceIdeal.Value.final19 m' c).trans (Cert.Tail.Ref.final19 _ _ _ _ _ _ _ _ _ _ _ _ _ _ _)).trans
        ((congrArg₂ Cert.Tail.hcArr (hW c) (hR c)).trans (Cert.Tail.final19 m c).symm)
    · exact ((Cert.ReferenceIdeal.Value.final20 m' c).trans (Cert.Tail.Ref.final20 _ _ _ _ _ _ _ _ _ _ _ _ _ _ _)).trans
        ((congrArg₂ Cert.Tail.hsArr (hW c) (hR c)).trans (Cert.Tail.final20 m c).symm)

/-- All five claims: the three programs run to the end and leave their arguments and semaphores as they were, the
    idealized kernel is the kernel's own text, and it leaves what the reference leaves. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
